-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x256 .f32 := (extf .f32 · bitsLt_bf16_f32) main_arg1
  let main_v6 : FVec F S512x256 .f32 := Host.absf main_v5
  let main_cst_0 : FVec F S_ .f32 := constant S_ .f32 0x7F800000#32
  let main_v7 : FVec F S512x256 .f32 := broadcastInDim S512x256 ![] bcast_S_S512x256 main_cst_0
  let main_v8 : IVec S512x256 1 := cmpf .olt main_v6 main_v7
  let main_c_1 : IVec S_ 1 := constantI S_ 1 1#1
  let main_v9 : IVec S_ 1 := (fun x v => Host.reduce IntOp.andi x v reducesTo_S512x256_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Pre_finite_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .bf16) (main_arg1 : FVec F S512x1024 .bf16) (main_arg2 : FVec F S2x128x16x64 .bf16) (main_arg3 : FVec F S2x128x16x64 .bf16) (main_arg4 : FVec F S1024x512 .bf16) : IVec S_ 1 :=
  let main_v0 : FVec F S2x128x512 .f32 := (extf .f32 · bitsLt_bf16_f32) main_arg0
  let main_v1 : FVec F S2x128x512 .f32 := Host.absf main_v0
  let main_cst : FVec F S_ .f32 := constant S_ .f32 0x7F800000#32
  let main_v2 : FVec F S2x128x512 .f32 := broadcastInDim S2x128x512 ![] bcast_S_S2x128x512 main_cst
  let main_v3 : IVec S2x128x512 1 := cmpf .olt main_v1 main_v2
  let main_c : IVec S_ 1 := constantI S_ 1 1#1
  let main_v4 : IVec S_ 1 := (fun x v => Host.reduce IntOp.andi x v reducesTo_S2x128x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : IVec S_ 1 := andi main_v4 main_v9
  let main_v11 : FVec F S2x128x16x64 .f32 := (extf .f32 · bitsLt_bf16_f32) main_arg2
  let main_v12 : FVec F S2x128x16x64 .f32 := Host.absf main_v11
  let main_cst_2 : FVec F S_ .f32 := constant S_ .f32 0x7F800000#32
  let main_v13 : FVec F S2x128x16x64 .f32 := broadcastInDim S2x128x16x64 ![] bcast_S_S2x128x16x64 main_cst_2
  let main_v14 : IVec S2x128x16x64 1 := cmpf .olt main_v12 main_v13
  let main_c_3 : IVec S_ 1 := constantI S_ 1 1#1
  let main_v15 : IVec S_ 1 := (fun x v => Host.reduce IntOp.andi x v reducesTo_S2x128x16x64_S_d0_1_2_3 h_S_) main_v14 main_c_3
  let main_v16 : IVec S_ 1 := andi main_v10 main_v15
  main_v16
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩
abbrev S2x128x1024 : Shape := ⟨3, ![2, 128, 1024]⟩
abbrev S2x128x256 : Shape := ⟨3, ![2, 128, 256]⟩
abbrev S2x8x128x128 : Shape := ⟨4, ![2, 8, 128, 128]⟩
abbrev S2x8 : Shape := ⟨2, ![2, 8]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x128x64 : Shape := ⟨3, ![1, 128, 64]⟩
abbrev S128x128 : Shape := ⟨2, ![128, 128]⟩
abbrev S128 : Shape := ⟨1, ![128]⟩
abbrev S128x1 : Shape := ⟨2, ![128, 1]⟩
abbrev S256x128 : Shape := ⟨2, ![256, 128]⟩
abbrev S1x1x128x128 : Shape := ⟨4, ![1, 1, 128, 128]⟩
abbrev S1x1 : Shape := ⟨2, ![1, 1]⟩
abbrev S1x128x128 : Shape := ⟨3, ![1, 128, 128]⟩

abbrev nBuf : Space → Nat
  | .hbm => 34
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2x128x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x256, .bf16⟩
  | .hbm, ⟨22, _⟩ => ⟨S2x128x1024, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x256, .bf16⟩
  | .hbm, ⟨33, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x256, .bf16⟩
  | .local _ .vmem, ⟨3, _⟩ => ⟨S2x128x256, .bf16⟩
  | .local _ .vmem, ⟨4, _⟩ => ⟨S256x512, .bf16⟩
  | .local _ .vmem, ⟨5, _⟩ => ⟨S2x128x512, .bf16⟩
  | .local _ .vmem, ⟨6, _⟩ => ⟨S2x8x128x128, .bf16⟩
  | .local _ .vmem, ⟨7, _⟩ => ⟨S2x8x128x128, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := ⟨1, ![1], ![false]⟩

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_63 : BitVec 32 := 1#32
  let v91 : BitVec 32 := Scalar.muli v3 c1_i32_63
  let v92 : BitVec 32 := Scalar.addi c0_i32_64 v91
  v92.toNat
def k0_dev4 (d0 : Dev nD) : Nat :=
  let c0_i32_82 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_81 : BitVec 32 := 1#32
  let v107 : BitVec 32 := Scalar.muli v4 c1_i32_81
  let v108 : BitVec 32 := Scalar.addi c0_i32_82 v107
  v108.toNat
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_99 : BitVec 32 := 1#32
  let v123 : BitVec 32 := Scalar.muli v3 c1_i32_99
  let v124 : BitVec 32 := Scalar.addi c0_i32_100 v123
  v124.toNat
def k0_dev6 (d0 : Dev nD) : Nat :=
  let c0_i32_118 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_117 : BitVec 32 := 1#32
  let v139 : BitVec 32 := Scalar.muli v4 c1_i32_117
  let v140 : BitVec 32 := Scalar.addi c0_i32_118 v139
  v140.toNat
def k0_dev7 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_180 : BitVec 32 := 1#32
  let v226 : BitVec 32 := Scalar.muli v3 c1_i32_180
  let v227 : BitVec 32 := Scalar.addi c0_i32_181 v226
  v227.toNat
def k0_dev8 (d0 : Dev nD) : Nat :=
  let c0_i32_198 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_197 : BitVec 32 := 1#32
  let v242 : BitVec 32 := Scalar.muli v4 c1_i32_197
  let v243 : BitVec 32 := Scalar.addi c0_i32_198 v242
  v243.toNat
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_214 : BitVec 32 := 1#32
  let v258 : BitVec 32 := Scalar.muli v3 c1_i32_214
  let v259 : BitVec 32 := Scalar.addi c0_i32_215 v258
  v259.toNat
def k0_dev10 (d0 : Dev nD) : Nat :=
  let c0_i32_232 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_231 : BitVec 32 := 1#32
  let v274 : BitVec 32 := Scalar.muli v4 c1_i32_231
  let v275 : BitVec 32 := Scalar.addi c0_i32_232 v274
  v275.toNat
def k0_dev11 (d0 : Dev nD) : Nat :=
  let c0_i32_272 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_271 : BitVec 32 := 1#32
  let v300 : BitVec 32 := Scalar.muli v4 c1_i32_271
  let v301 : BitVec 32 := Scalar.addi c0_i32_272 v300
  v301.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_311 : BitVec 32 := 1#32
  let v326 : BitVec 32 := Scalar.muli v3 c1_i32_311
  let v327 : BitVec 32 := Scalar.addi c0_i32_312 v326
  v327.toNat
def k0_dev13 (d0 : Dev nD) : Nat :=
  let c0_i32_352 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_351 : BitVec 32 := 1#32
  let v352 : BitVec 32 := Scalar.muli v4 c1_i32_351
  let v353 : BitVec 32 := Scalar.addi c0_i32_352 v352
  v353.toNat
def k0_dev14 (d0 : Dev nD) : Nat :=
  let c0_i32_392 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_391 : BitVec 32 := 1#32
  let v378 : BitVec 32 := Scalar.muli v3 c1_i32_391
  let v379 : BitVec 32 := Scalar.addi c0_i32_392 v378
  v379.toNat
def k0_dev15 (d0 : Dev nD) : Nat :=
  let c0_i32_432 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_431 : BitVec 32 := 1#32
  let v404 : BitVec 32 := Scalar.muli v4 c1_i32_431
  let v405 : BitVec 32 := Scalar.addi c0_i32_432 v404
  v405.toNat
def k0_dev16 (d0 : Dev nD) : Nat :=
  let c0_i32_472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_471 : BitVec 32 := 1#32
  let v430 : BitVec 32 := Scalar.muli v3 c1_i32_471
  let v431 : BitVec 32 := Scalar.addi c0_i32_472 v430
  v431.toNat
def k0_dev17 (d0 : Dev nD) : Nat :=
  let c0_i32_512 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_511 : BitVec 32 := 1#32
  let v456 : BitVec 32 := Scalar.muli v4 c1_i32_511
  let v457 : BitVec 32 := Scalar.addi c0_i32_512 v456
  v457.toNat
def k0_dev18 (d0 : Dev nD) : Nat :=
  let c0_i32_552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_551 : BitVec 32 := 1#32
  let v482 : BitVec 32 := Scalar.muli v3 c1_i32_551
  let v483 : BitVec 32 := Scalar.addi c0_i32_552 v482
  v483.toNat
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 63
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x128x1024, .f32⟩
  | .hbm, ⟨6, _⟩ => ⟨S2x128x1024, .bf16⟩
  | .hbm, ⟨7, _⟩ => ⟨S2x128x16x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S2x16x128x128, .f32⟩
  | .hbm, ⟨20, _⟩ => ⟨S2x16x128x128, .bf16⟩
  | .hbm, ⟨21, _⟩ => ⟨S2x16x128x128, .f32⟩
  | .hbm, ⟨22, _⟩ => ⟨S_, .f32⟩
  | .hbm, ⟨23, _⟩ => ⟨S2x16x128x128, .f32⟩
  | .hbm, ⟨24, _⟩ => ⟨S2x16x128x128, .f32⟩
  | .hbm, ⟨25, _⟩ => ⟨S1x1x128x128, .i1⟩
  | .hbm, ⟨26, _⟩ => ⟨S_, .f32⟩
  | .hbm, ⟨27, _⟩ => ⟨S_, .f32⟩
  | .hbm, ⟨28, _⟩ => ⟨S2x16x128x128, .i1⟩
  | .hbm, ⟨29, _⟩ => ⟨S2x16x128x128, .f32⟩
  | .hbm, ⟨30, _⟩ => ⟨S2x16x128x128, .f32⟩
  | .hbm, ⟨31, _⟩ => ⟨S_, .f32⟩
  | .hbm, ⟨32, _⟩ => ⟨S2x16x128, .f32⟩
  | .hbm, ⟨33, _⟩ => ⟨S2x16x128x1, .f32⟩
  | .hbm, ⟨34, _⟩ => ⟨S2x16x128x128, .f32⟩
  | .hbm, ⟨35, _⟩ => ⟨S2x16x128x128, .f32⟩
  | .hbm, ⟨36, _⟩ => ⟨S2x16x128x128, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x16x128, .f32⟩
  | .hbm, ⟨42, _⟩ => ⟨S2x16x128x1, .f32⟩
  | .hbm, ⟨43, _⟩ => ⟨S_, .f32⟩
  | .hbm, ⟨44, _⟩ => ⟨S_, .f32⟩
  | .hbm, ⟨45, _⟩ => ⟨S2x16x128x1, .i1⟩
  | .hbm, ⟨46, _⟩ => ⟨S2x16x128x1, .f32⟩
  | .hbm, ⟨47, _⟩ => ⟨S2x16x128x1, .f32⟩
  | .hbm, ⟨48, _⟩ => ⟨S2x16x128x128, .f32⟩
  | .hbm, ⟨49, _⟩ => ⟨S2x16x128x128, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x16x128x128, .i1⟩
  | .hbm, ⟨54, _⟩ => ⟨S2x16x128x128, .f32⟩
  | .hbm, ⟨55, _⟩ => ⟨S2x16x128x128, .f32⟩
  | .hbm, ⟨56, _⟩ => ⟨S2x128x16x64, .f32⟩
  | .hbm, ⟨57, _⟩ => ⟨S2x16x64x128, .f32⟩
  | .hbm, ⟨58, _⟩ => ⟨S2x128x16x64, .f32⟩
  | .hbm, ⟨59, _⟩ => ⟨S2x128x1024, .f32⟩
  | .hbm, ⟨60, _⟩ => ⟨S1024x512, .f32⟩
  | .hbm, ⟨61, _⟩ => ⟨S2x128x512, .f32⟩
  | .hbm, ⟨62, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Data.lean ====
/-
The names the proof of the attention kernel reads by: the two partners of a device, the thirty-two transfer
semaphores, the sixteen slots of the two exchange buffers, and what every slot holds once it is written.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Launch
public import Idealize.ShloMosaic.Lib.Pipeline.Kit
public import Idealize.ShloMosaic.Lib.Pipeline.Regions
public import Idealize.ShloMosaic.Lib.Pipeline.RegionTalk
public import Idealize.ShloMosaic.Lib.Pipeline.Quiescent
public import Idealize.ShloMosaic.Lib.Quiescent
public import Idealize.ShloMosaic.Lib.Tactic

@[expose] public section

noncomputable section

namespace Cert.Attn

open Cert.KernelIdeal Cert.KernelIdeal.Gen

open Idealize.ShloMosaic Idealize.ShloMosaic.TcCoe
open Idealize.SL Idealize.SL.Sem

variable {F : FTy → Type} [FloatOps F]

/-! ## The devices -/

/-- The partner across bit `b`: `c xor 1` for `false`, `3 - c` for `true`. -/
def nb (c : Dev nD) (b : Bool) : Dev nD :=
  match b with
  | false => ![1, 0, 3, 2] c
  | true => ![3, 2, 1, 0] c

theorem nb_nb (c : Dev nD) (b : Bool) : nb (nb c b) b = c := by revert c b; decide

/-- Which partner transfer `k = 8 * round + chunk` goes to: the even chunks to `c xor 1` first, the odd ones to `3 - c` first. -/
def par (k : Fin 16) : Bool := decide ((k.val / 8 + k.val) % 2 = 1)
/-- The partner of transfer `k`. -/
def ptn (c : Dev nD) (k : Fin 16) : Dev nD := nb c (par k)
theorem ptn_ptn (c : Dev nD) (k : Fin 16) : ptn (ptn c k) k = c := nb_nb c (par k)

theorem dev1_eq (c : Dev nD) : (⟨k0_dev1 c, k0_dev1_lt c⟩ : Dev nD) = nb c false := by revert c; decide
theorem dev2_eq (c : Dev nD) : (⟨k0_dev2 c, k0_dev2_lt c⟩ : Dev nD) = nb c true := by revert c; decide
theorem dev3_eq (c : Dev nD) : (⟨k0_dev3 c, k0_dev3_lt c⟩ : Dev nD) = ptn c 0 := by revert c; decide
theorem dev4_eq (c : Dev nD) : (⟨k0_dev4 c, k0_dev4_lt c⟩ : Dev nD) = ptn c 1 := by revert c; decide
theorem dev5_eq (c : Dev nD) : (⟨k0_dev5 c, k0_dev5_lt c⟩ : Dev nD) = ptn c 2 := by revert c; decide
theorem dev6_eq (c : Dev nD) : (⟨k0_dev6 c, k0_dev6_lt c⟩ : Dev nD) = ptn c 3 := by revert c; decide
theorem dev7_eq (c : Dev nD) : (⟨k0_dev7 c, k0_dev7_lt c⟩ : Dev nD) = ptn c 4 := by revert c; decide
theorem dev8_eq (c : Dev nD) : (⟨k0_dev8 c, k0_dev8_lt c⟩ : Dev nD) = ptn c 5 := by revert c; decide
theorem dev9_eq (c : Dev nD) : (⟨k0_dev9 c, k0_dev9_lt c⟩ : Dev nD) = ptn c 6 := by revert c; decide
theorem dev10_eq (c : Dev nD) : (⟨k0_dev10 c, k0_dev10_lt c⟩ : Dev nD) = ptn c 7 := by revert c; decide
theorem dev11_eq (c : Dev nD) : (⟨k0_dev11 c, k0_dev11_lt c⟩ : Dev nD) = ptn c 8 := by revert c; decide
theorem dev12_eq (c : Dev nD) : (⟨k0_dev12 c, k0_dev12_lt c⟩ : Dev nD) = ptn c 9 := by revert c; decide
theorem dev13_eq (c : Dev nD) : (⟨k0_dev13 c, k0_dev13_lt c⟩ : Dev nD) = ptn c 10 := by revert c; decide
theorem dev14_eq (c : Dev nD) : (⟨k0_dev14 c, k0_dev14_lt c⟩ : Dev nD) = ptn c 11 := by revert c; decide
theorem dev15_eq (c : Dev nD) : (⟨k0_dev15 c, k0_dev15_lt c⟩ : Dev nD) = ptn c 12 := by revert c; decide
theorem dev16_eq (c : Dev nD) : (⟨k0_dev16 c, k0_dev16_lt c⟩ : Dev nD) = ptn c 13 := by revert c; decide
theorem dev17_eq (c : Dev nD) : (⟨k0_dev17 c, k0_dev17_lt c⟩ : Dev nD) = ptn c 14 := by revert c; decide
theorem dev18_eq (c : Dev nD) : (⟨k0_dev18 c, k0_dev18_lt c⟩ : Dev nD) = ptn c 15 := by revert c; decide

/-! ## The semaphores -/

abbrev barS : Sem sig := (SemArray.scalar (sig.barrier 0 rfl) : Sems sig S_).sem
/-- The thirty-two transfer semaphores: the sixteen a sender waits on, then the sixteen a receiver waits on. -/
abbrev osem (j : Fin 32) : SemLoc sig := .dma ⟨6 + j.val, Nat.lt_of_lt_of_le (Nat.add_lt_add_left j.isLt 6) (by decide)⟩
def sndS (k : Fin 16) : SemLoc sig := osem ⟨k.val, by omega⟩
def rcvS (k : Fin 16) : SemLoc sig := osem ⟨16 + k.val, by omega⟩

theorem snd_sem (r c : ℕ) (k : Fin 16) (hk : k.val = 8 * r + c) (h : ∀ a, ![r, c] a + S1x1.size a ≤ S2x8.size a) :
    SemLoc.dma (((cc0_scratch2.slice (Rect.unit (s := S2x8) ![r, c] S1x1.size h)).squeeze S_ squeezes_S1x1_S_).sem) = sndS k := by
  refine congrArg SemLoc.dma (Fin.ext ?_)
  show 6 + (S2x8.rowMajor ((Rect.unit (s := S2x8) ![r, c] S1x1.size h).emb (Shape.reshapeEquiv squeezes_S1x1_S_.numel_eq _))).val = 6 + (k.val)
  generalize (Shape.reshapeEquiv squeezes_S1x1_S_.numel_eq _ : S1x1.Idx) = y
  have y0 : (y 0).val < 1 := (y 0).isLt
  have y1 : (y 1).val < 1 := (y 1).isLt
  have e := Shape.rowMajor_val_two (d := S2x8.size) ((Rect.unit (s := S2x8) ![r, c] S1x1.size h).emb y)
  have e' : (S2x8.rowMajor ((Rect.unit (s := S2x8) ![r, c] S1x1.size h).emb y)).val = (r + 1 * (y 0).val) * 8 + (c + 1 * (y 1).val) := e
  omega
theorem rcv_sem (r c : ℕ) (k : Fin 16) (hk : k.val = 8 * r + c) (h : ∀ a, ![r, c] a + S1x1.size a ≤ S2x8.size a) :
    SemLoc.dma (((cc0_scratch3.slice (Rect.unit (s := S2x8) ![r, c] S1x1.size h)).squeeze S_ squeezes_S1x1_S_).sem) = rcvS k := by
  refine congrArg SemLoc.dma (Fin.ext ?_)
  show 22 + (S2x8.rowMajor ((Rect.unit (s := S2x8) ![r, c] S1x1.size h).emb (Shape.reshapeEquiv squeezes_S1x1_S_.numel_eq _))).val = 6 + (16 + k.val)
  generalize (Shape.reshapeEquiv squeezes_S1x1_S_.numel_eq _ : S1x1.Idx) = y
  have y0 : (y 0).val < 1 := (y 0).isLt
  have y1 : (y 1).val < 1 := (y 1).isLt
  have e := Shape.rowMajor_val_two (d := S2x8.size) ((Rect.unit (s := S2x8) ![r, c] S1x1.size h).emb y)
  have e' : (S2x8.rowMajor ((Rect.unit (s := S2x8) ![r, c] S1x1.size h).emb y)).val = (r + 1 * (y 0).val) * 8 + (c + 1 * (y 1).val) := e
  omega

theorem osem_inj : Function.Injective osem := fun a b h => by
  have := congrArg (fun s : SemLoc sig => match s with | .dma t => t.val | _ => 0) h
  exact Fin.ext (by simpa using this)
theorem osem_ne_bar (j : Fin 32) : osem j ≠ .reg barS := fun h => by cases h
theorem sndS_ne_bar (k : Fin 16) : sndS k ≠ .reg barS := osem_ne_bar _
theorem rcvS_ne_bar (k : Fin 16) : rcvS k ≠ .reg barS := osem_ne_bar _

abbrev barCell (c : Dev nD) : GSem nD τ sig := ((c : Thread nD τ), .reg barS)
abbrev sndCell (c : Dev nD) (k : Fin 16) : GSem nD τ sig := ((c : Thread nD τ), sndS k)
abbrev rcvCell (c : Dev nD) (k : Fin 16) : GSem nD τ sig := ((c : Thread nD τ), rcvS k)

/-! ## What the kernel computes, from what its windows hold -/

/-- What the five input windows of a device hold. -/
structure Inputs (F : FTy → Type) where
  x : Vec F S2x128x512 .bf16
  wq : Vec F S512x256 .bf16
  k : Vec F S2x128x256 .bf16
  v : Vec F S2x128x256 .bf16
  wo : Vec F S256x512 .bf16

/-- A window read through a rectangle. -/
abbrev cut {s : Shape} (f : Vec F s .bf16) (r : Rect s) : Vec F r.shape .bf16 := fun i => f (r.idx i)

namespace Inputs
variable (I : Inputs F)

abbrev WQ : Vec F S512x256 .bf16 := cut I.wq (Rect.unit (s := S512x256) ![0, 0] S512x256.size inb_S512x256_S512x256_0_0)
abbrev WO : Vec F S256x512 .bf16 := cut I.wo (Rect.unit (s := S256x512) ![0, 0] S256x512.size inb_S256x512_S256x512_0_0)
abbrev X0 : Vec F S1x128x512 .bf16 := cut I.x (Rect.unit (s := S2x128x512) ![0, 0, 0] S1x128x512.size inb_S2x128x512_S1x128x512_0_0_0)
abbrev X1 : Vec F S1x128x512 .bf16 := cut I.x (Rect.unit (s := S2x128x512) ![1, 0, 0] S1x128x512.size inb_S2x128x512_S1x128x512_1_0_0)
abbrev H00 (f : Vec F S2x128x256 .bf16) : Vec F S1x128x64 .bf16 := cut f (Rect.unit (s := S2x128x256) ![0, 0, 0] S1x128x64.size inb_S2x128x256_S1x128x64_0_0_0)
abbrev H01 (f : Vec F S2x128x256 .bf16) : Vec F S1x128x64 .bf16 := cut f (Rect.unit (s := S2x128x256) ![0, 0, 64] S1x128x64.size inb_S2x128x256_S1x128x64_0_0_64)
abbrev H02 (f : Vec F S2x128x256 .bf16) : Vec F S1x128x64 .bf16 := cut f (Rect.unit (s := S2x128x256) ![0, 0, 128] S1x128x64.size inb_S2x128x256_S1x128x64_0_0_128)
abbrev H03 (f : Vec F S2x128x256 .bf16) : Vec F S1x128x64 .bf16 := cut f (Rect.unit (s := S2x128x256) ![0, 0, 192] S1x128x64.size inb_S2x128x256_S1x128x64_0_0_192)
abbrev H10 (f : Vec F S2x128x256 .bf16) : Vec F S1x128x64 .bf16 := cut f (Rect.unit (s := S2x128x256) ![1, 0, 0] S1x128x64.size inb_S2x128x256_S1x128x64_1_0_0)
abbrev H11 (f : Vec F S2x128x256 .bf16) : Vec F S1x128x64 .bf16 := cut f (Rect.unit (s := S2x128x256) ![1, 0, 64] S1x128x64.size inb_S2x128x256_S1x128x64_1_0_64)
abbrev H12 (f : Vec F S2x128x256 .bf16) : Vec F S1x128x64 .bf16 := cut f (Rect.unit (s := S2x128x256) ![1, 0, 128] S1x128x64.size inb_S2x128x256_S1x128x64_1_0_128)
abbrev H13 (f : Vec F S2x128x256 .bf16) : Vec F S1x128x64 .bf16 := cut f (Rect.unit (s := S2x128x256) ![1, 0, 192] S1x128x64.size inb_S2x128x256_S1x128x64_1_0_192)

/-- Batch 0: the scaled queries, and the normalized heads side by side. -/
abbrev q0 : FVec F S128x256 .bf16 := k0_pay3 I.WQ I.X0
abbrev h00 : FVec F S128x64 .bf16 := k0_pay7 (k0_pay4 (H00 I.v)) (k0_pay5 I.WQ I.X0 (H00 I.k)) (k0_pay6 I.WQ I.X0 (H00 I.k))
abbrev h01 : FVec F S128x64 .bf16 := k0_pay8 I.q0 (H01 I.k) (H01 I.v)
abbrev h02 : FVec F S128x64 .f32 := k0_pay9 I.q0 (H02 I.k) (H02 I.v)
abbrev ctx0 : FVec F S128x256 .bf16 := k0_pay10 I.q0 I.h00 I.h01 I.h02 (H03 I.k) (H03 I.v)
/-- Batch 1 likewise. -/
abbrev q1 : FVec F S128x256 .bf16 := k0_pay15 (k0_pay1 I.WQ) I.X1
abbrev h10 : FVec F S128x64 .bf16 := k0_pay16 (k0_pay1 I.WQ) I.X1 (H10 I.k) (H10 I.v)
abbrev h11 : FVec F S128x64 .f32 := k0_pay18 (k0_pay1 I.WQ) I.X1 (H11 I.k) (H11 I.v)
abbrev d11 : FVec F S128x64 .f32 := k0_pay19 (k0_pay1 I.WQ) I.X1 (H11 I.k)
abbrev ctx1 : FVec F S128x256 .bf16 := k0_pay20 I.q1 I.h10 I.h11 I.d11 (H12 I.k) (H12 I.v) (H13 I.k) (H13 I.v)

/-- The eight partial products a device sends in round 0: four column blocks of batch 0, then of batch 1. -/
def part : Fin 8 → Vec F S1x1x128x128 .bf16
  | 0 => k0_pay11 (k0_pay2 I.WO) I.q0 I.h00 I.h01 I.h02 (H03 I.k) (H03 I.v)
  | 1 => k0_pay12 (k0_pay2 I.WO) I.ctx0
  | 2 => k0_pay13 (k0_pay2 I.WO) I.ctx0
  | 3 => k0_pay14 (k0_pay2 I.WO) I.ctx0
  | 4 => k0_pay22 (k0_pay21 (k0_pay2 I.WO) I.q1 I.h10 I.h11 I.d11 (H12 I.k) (H12 I.v) (H13 I.k) (H13 I.v))
  | 5 => k0_pay23 (k0_pay2 I.WO) I.ctx1
  | 6 => k0_pay24 (k0_pay2 I.WO) I.ctx1
  | 7 => k0_pay25 (k0_pay2 I.WO) I.ctx1
end Inputs

variable (I : Dev nD → Inputs F)

/-- What device `c` sends in transfer `k`: its own partial product, then that added to what its first partner sent. -/
def val (c : Dev nD) (k : Fin 16) : Vec F S1x1x128x128 .bf16 :=
  if h : k.val < 8 then (I c).part ⟨k.val, h⟩
  else k0_pay28 ((I c).part ⟨k.val - 8, by omega⟩) ((I (ptn c ⟨k.val - 8, by omega⟩)).part ⟨k.val - 8, by omega⟩)

theorem val_lo (c : Dev nD) (j : Fin 8) : val I c ⟨j.val, by omega⟩ = (I c).part j := dif_pos j.isLt
theorem val_hi (c : Dev nD) (j : Fin 8) :
    val I c ⟨8 + j.val, by omega⟩ = k0_pay28 (val I c ⟨j.val, by omega⟩) (val I (ptn c ⟨j.val, by omega⟩) ⟨j.val, by omega⟩) := by
  rw [val_lo, val_lo]
  unfold val
  rw [dif_neg (by simp)]
  simp only [Nat.add_sub_cancel_left]

/-- The block chunk `j` of the result holds on device `c`. -/
def res (c : Dev nD) (j : Fin 8) : Vec F S1x128x128 .bf16 :=
  k0_pay36 (val I c ⟨8 + j.val, by omega⟩) (val I (ptn c ⟨8 + j.val, by omega⟩) ⟨8 + j.val, by omega⟩)

/-! ## The slots -/

/-- The slot an index of an exchange buffer lies in. -/
def slotOf (i : S2x8x128x128.Idx) : Fin 16 :=
  ⟨8 * (i 0).val + (i 1).val, by have h0 : (i 0).val < 2 := (i 0).isLt; have h1 : (i 1).val < 8 := (i 1).isLt; omega⟩
/-- Its position there. -/
def posOf (i : S2x8x128x128.Idx) : S1x1x128x128.Idx
  | 0 => (0 : Fin 1) | 1 => (0 : Fin 1) | 2 => i 2 | 3 => i 3

def slotSet (k : Fin 16) : Finset S2x8x128x128.Idx := Finset.univ.filter fun i => slotOf i = k

theorem mem_slotSet {k : Fin 16} {i : S2x8x128x128.Idx} : i ∈ slotSet k ↔ slotOf i = k := by
  unfold slotSet; simp
theorem slot_disjoint (k k' : Fin 16) (h : k ≠ k') : Disjoint (slotSet k) (slotSet k') :=
  Finset.disjoint_left.mpr fun i h₁ h₂ => h ((mem_slotSet.mp h₁).symm.trans (mem_slotSet.mp h₂))
theorem slot_cover : Finset.univ.biUnion slotSet = (Finset.univ : Finset S2x8x128x128.Idx) :=
  Finset.eq_univ_iff_forall.mpr fun i => Finset.mem_biUnion.mpr ⟨slotOf i, Finset.mem_univ _, mem_slotSet.mpr rfl⟩

/-- An exchange buffer with the blocks `P` in its slots. -/
def fill (P : Fin 16 → Vec F S1x1x128x128 .bf16) : Vec F S2x8x128x128 .bf16 := fun i => P (slotOf i) (posOf i)

section Slot
variable (r c : ℕ) (k : Fin 16) (hk : k.val = 8 * r + c) (h : ∀ a, ![r, c, 0, 0] a + S1x1x128x128.size a ≤ S2x8x128x128.size a)

abbrev slotR : Rect S2x8x128x128 := Rect.unit (s := S2x8x128x128) ![r, c, 0, 0] S1x1x128x128.size h

include hk in
theorem slotR_set : (slotR r c h).set = slotSet k := by
  have h1 : r + 1 ≤ 2 := h 0
  have h2 : c + 1 ≤ 8 := h 1
  ext i
  have i0 : (i 0).val < 2 := (i 0).isLt
  have i1 : (i 1).val < 8 := (i 1).isLt
  have i2 : (i 2).val < 128 := (i 2).isLt
  have i3 : (i 3).val < 128 := (i 3).isLt
  rw [Rect.mem_set_unit, mem_slotSet, Fin.ext_iff]
  show _ ↔ 8 * (i 0).val + (i 1).val = k.val
  constructor
  · intro hh
    have a0 : r ≤ (i 0).val ∧ (i 0).val < r + 1 := hh 0
    have a1 : c ≤ (i 1).val ∧ (i 1).val < c + 1 := hh 1
    omega
  · intro hh a
    have e0 : (i 0).val = r := by omega
    have e1 : (i 1).val = c := by omega
    match a with
    | 0 => exact (⟨by omega, by omega⟩ : r ≤ (i 0).val ∧ (i 0).val < r + 1)
    | 1 => exact (⟨by omega, by omega⟩ : c ≤ (i 1).val ∧ (i 1).val < c + 1)
    | 2 => exact (⟨by omega, by omega⟩ : 0 ≤ (i 2).val ∧ (i 2).val < 0 + 128)
    | 3 => exact (⟨by omega, by omega⟩ : 0 ≤ (i 3).val ∧ (i 3).val < 0 + 128)

include hk in
theorem slotOf_emb (x : S1x1x128x128.Idx) : slotOf ((slotR r c h).emb x) = k := by
  apply Fin.ext
  have x0 : (x 0).val < 1 := (x 0).isLt
  have x1 : (x 1).val < 1 := (x 1).isLt
  show 8 * (r + 1 * (x 0).val) + (c + 1 * (x 1).val) = k.val
  omega
theorem posOf_emb (x : S1x1x128x128.Idx) : posOf ((slotR r c h).emb x) = x := by
  funext a
  match a with
  | 0 => exact Subsingleton.elim (α := Fin 1) _ _
  | 1 => exact Subsingleton.elim (α := Fin 1) _ _
  | 2 => exact Fin.ext (show 0 + 1 * (x 2).val = (x 2).val by omega)
  | 3 => exact Fin.ext (show 0 + 1 * (x 3).val = (x 3).val by omega)

include hk in
theorem fill_emb (P : Fin 16 → Vec F S1x1x128x128 .bf16) (x : S1x1x128x128.Idx) : fill P ((slotR r c h).emb x) = P k x := by
  unfold fill; rw [slotOf_emb r c k hk h, posOf_emb]

abbrev sndM : Memref sig .tc .vmem S2x8x128x128 .bf16 := Memref.whole cc0_scratch0
abbrev rcvM : Memref sig .tc .vmem S2x8x128x128 .bf16 := Memref.whole cc0_scratch1
abbrev sndV : Memref sig .tc .vmem S128x128 .bf16 := (sndM.slice (slotR r c h) (fun _ => rfl)).squeeze S128x128 squeezes_S1x1x128x128_S128x128
abbrev rcvV : Memref sig .tc .vmem S128x128 .bf16 := (rcvM.slice (slotR r c h) (fun _ => rfl)).squeeze S128x128 squeezes_S1x1x128x128_S128x128

include hk in
theorem snd_access_set : (sndM.access (slotR r c h)).set = slotSet k := (View.set_slice_whole _ _).trans (slotR_set r c k hk h)
include hk in
theorem rcv_access_set : (rcvM.access (slotR r c h)).set = slotSet k := (View.set_slice_whole _ _).trans (slotR_set r c k hk h)
include hk in
theorem sndV_set : (sndV r c h).view.set = slotSet k := (View.set_reshape _ _).trans (snd_access_set r c k hk h)
include hk in
theorem rcvV_set : (rcvV r c h).view.set = slotSet k := (View.set_reshape _ _).trans (rcv_access_set r c k hk h)

include hk in
/-- A slot of a filled buffer reads as its block. -/
theorem snd_read_fill (P : Fin 16 → Vec F S1x1x128x128 .bf16) : (sndM.access (slotR r c h)).read (Elt F) (fill P) = P k :=
  funext fun x => fill_emb r c k hk h P x
include hk in
theorem rcv_read_fill (P : Fin 16 → Vec F S1x1x128x128 .bf16) : (rcvM.access (slotR r c h)).read (Elt F) (fill P) = P k :=
  funext fun x => fill_emb r c k hk h P x

include hk in
/-- Storing block `k` in slot `k` fills it. -/
theorem snd_write_fill (P : Fin 16 → Vec F S1x1x128x128 .bf16) (f : Vec F S2x8x128x128 .bf16) (i : S2x8x128x128.Idx) (hi : i ∈ slotSet k) :
    (sndM.access (slotR r c h)).write (Elt F) f (P k) Finset.univ i = fill P i := by
  rw [← snd_access_set r c k hk h] at hi
  obtain ⟨x, -, rfl⟩ := Finset.mem_map.mp hi
  refine (View.write_emb_of_mem (v := sndM.access (slotR r c h)) f (P k) (Finset.mem_univ x)).trans ?_
  exact (fill_emb r c k hk h P x).symm

include hk in
/-- A transfer from slot `k` of one exchange buffer lands in slot `k` of the other as it was. -/
theorem land (f g : Vec F S2x8x128x128 .bf16) (i : S2x8x128x128.Idx) (hi : i ∈ slotSet k) :
    (rcvV r c h).view.write (Elt F) g ((sndV r c h).view.read (Elt F) f) Finset.univ i = f i := by
  rw [← rcvV_set r c k hk h] at hi
  obtain ⟨x, -, rfl⟩ := Finset.mem_map.mp hi
  refine (View.write_emb_of_mem (v := (rcvV r c h).view) g ((sndV r c h).view.read (Elt F) f) (Finset.mem_univ x)).trans ?_
  exact (rfl : f ((sndV r c h).view.emb x) = f ((sndV r c h).view.emb x))
end Slot

end Cert.Attn

end
-- ==== Proof.Protocol.lean ====
/-
The protocol of the two-round exchange: the cells, who pays what to which, what a device owes, in which order it may wait,
and the state a device is in after so many stores, transfers and waits.
-/
module

public import proofs.«01_k».proof.Proof.Data

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Stretches of the sixteen transfers -/

/-- The transfers from `a` up to `b`. -/
def span (a b : ℕ) : Finset (Fin 16) := Finset.univ.filter fun k => a ≤ k.val ∧ k.val < b
/-- What is held for each of them. -/
def seg (Φ : Fin 16 → sProp 𝕄) (a b : ℕ) : sProp 𝕄 := bigSep (span a b) Φ

theorem mem_span {a b : ℕ} {k : Fin 16} : k ∈ span a b ↔ a ≤ k.val ∧ k.val < b := by unfold span; simp

theorem seg_nil (Φ : Fin 16 → sProp 𝕄) (a b : ℕ) (h : b ≤ a) : seg Φ a b = iprop(emp) := by
  have : span a b = ∅ := Finset.eq_empty_of_forall_notMem fun k hk => by rw [mem_span] at hk; omega
  unfold seg; rw [this, bigSep_empty]; rfl
theorem seg_head (Φ : Fin 16 → sProp 𝕄) (k : Fin 16) (b : ℕ) (h : k.val < b) : seg Φ k.val b = iprop(Φ k ∗ seg Φ (k.val + 1) b) := by
  have : span k.val b = insert k (span (k.val + 1) b) := by
    ext j; rw [Finset.mem_insert, mem_span, mem_span, Fin.ext_iff]; omega
  unfold seg; rw [this, BI.bigSep_insert (by rw [mem_span]; omega)]; rfl
theorem seg_tail (Φ : Fin 16 → sProp 𝕄) (a : ℕ) (k : Fin 16) (h : a ≤ k.val) : seg Φ a (k.val + 1) = iprop(Φ k ∗ seg Φ a k.val) := by
  have : span a (k.val + 1) = insert k (span a k.val) := by
    ext j; rw [Finset.mem_insert, mem_span, mem_span, Fin.ext_iff]; omega
  unfold seg; rw [this, BI.bigSep_insert (by rw [mem_span]; omega)]; rfl
theorem seg_at (Φ : Fin 16 → sProp 𝕄) (a b : ℕ) (k : Fin 16) (h : a ≤ k.val ∧ k.val < b) :
    seg Φ a b = iprop(Φ k ∗ bigSep ((span a b).erase k) Φ) := BI.bigSep_erase (mem_span.mpr h)
theorem seg_all (Φ : Fin 16 → sProp 𝕄) : seg Φ 0 16 = bigSep Finset.univ Φ := by
  have : span 0 16 = Finset.univ := Finset.eq_univ_iff_forall.mpr fun k => by rw [mem_span]; omega
  unfold seg; rw [this]

/-! ## Contents -/

variable (I : Dev nD → Inputs F)

/-- What the send buffer of device `c` holds once written, and what the receive buffer does once its partners' blocks are in. -/
def sndG (c : Dev nD) : Vec F S2x8x128x128 .bf16 := fill (val I c)
def rcvG (c : Dev nD) : Vec F S2x8x128x128 .bf16 := fill fun k => val I (ptn c k) k

theorem rcvG_eq (c : Dev nD) (k : Fin 16) (i : S2x8x128x128.Idx) (hi : i ∈ slotSet k) : rcvG I (ptn c k) i = sndG I c i := by
  unfold rcvG sndG fill
  rw [mem_slotSet.mp hi]
  dsimp only
  rw [ptn_ptn]

def sndPts (q : PosShare TreeShare) (c : Dev nD) (k : Fin 16) (f : Vec F S2x8x128x128 .bf16) : sProp 𝕄 :=
  ((c : Thread nD τ).loc cc0_scratch0) ↦[slotSet k]{q} f
def rcvPts (c : Dev nD) (k : Fin 16) (f : Vec F S2x8x128x128 .bf16) : sProp 𝕄 :=
  ((c : Thread nD τ).loc cc0_scratch1) ↦[slotSet k]{fullShare} f

omit [FloatOps F] in
instance sndPts_storable (q) (c : Dev nD) (k) (f : Vec F S2x8x128x128 .bf16) : BI.Storable (upEmb : UEmb _ 𝕄) (sndPts q c k f) := by
  unfold sndPts; infer_instance
omit [FloatOps F] in
instance rcvPts_storable (c : Dev nD) (k) (f : Vec F S2x8x128x128 .bf16) : BI.Storable (upEmb : UEmb _ 𝕄) (rcvPts c k f) := by
  unfold rcvPts; infer_instance

/-! ## The schedule -/

abbrev N : ℕ := (rcvV 0 0 inb_S2x8x128x128_S1x1x128x128_0_0_0_0).view.dmaCredit
theorem N_pos : 0 < N := View.dmaCredit_pos _ (by decide)

/-- What device `p` hands over before transfer `k` may write into it: the slot, and that its receive cell is open. -/
def handed (p : Dev nD) (k : Fin 16) : sProp 𝕄 :=
  iprop((∃ f : Vec F S2x8x128x128 .bf16, rcvPts p k f) ∗ reached ER (rcvCell p k) 0)
/-- What the partner of `c` across bit `b` hands over at `c`'s barrier. -/
def barPay (c : Dev nD) (b : Bool) : sProp 𝕄 := bigSep (Finset.univ.filter fun k : Fin 16 => par k = b) fun k => handed (F := F) (nb c b) k

omit [FloatOps F] in
instance handed_storable (p : Dev nD) (k) : BI.Storable (upEmb : UEmb _ 𝕄) (handed (F := F) p k) := by unfold handed; infer_instance
omit [FloatOps F] in
instance barPay_storable (c : Dev nD) (b) : BI.Storable (upEmb : UEmb _ 𝕄) (barPay (F := F) c b) := by unfold barPay; infer_instance

/-- The number of a transfer semaphore among the thirty-two. -/
def kOf : SemLoc sig → ℕ
  | .dma q => q.val - 6
  | _ => 0
theorem kOf_snd (k : Fin 16) : kOf (sndS k) = k.val := by show 6 + k.val - 6 = k.val; omega
theorem kOf_rcv (k : Fin 16) : kOf (rcvS k) = 16 + k.val := by show 6 + (16 + k.val) - 6 = 16 + k.val; omega
def numOf (s : SemLoc sig) : Fin 16 := ⟨kOf s % 16, Nat.mod_lt _ (Nat.succ_pos 15)⟩
theorem numOf_snd (k : Fin 16) : numOf (sndS k) = k := Fin.ext (by show kOf (sndS k) % 16 = k.val; rw [kOf_snd]; omega)
theorem numOf_rcv (k : Fin 16) : numOf (rcvS k) = k := Fin.ext (by show kOf (rcvS k) % 16 = k.val; rw [kOf_rcv]; omega)

/-- One round on every cell: the barrier's two units, one transfer on every other. -/
def Rd : Rounds.Schedule (GSem nD τ sig) Bool 𝕄 where
  duties g r := if r = 0 ∧ g.1.2 = .tc then (if g.2 = .reg barS then Finset.univ else {false}) else ∅
  unitless _ := False
  amount g _ _ := if g.2 = .reg barS then 1 else N
  payload g _ b :=
    if g.2 = .reg barS then barPay g.1.1 b
    else if kOf g.2 < 16 then sndPts fullShare.left g.1.1 (numOf g.2) (sndG I g.1.1)
    else rcvPts g.1.1 (numOf g.2) (rcvG I g.1.1)
  amount_pos g _ _ _ := by
    by_cases h : g.2 = .reg barS
    · rw [if_pos h]; exact Nat.one_pos
    · rw [if_neg h]; exact N_pos

instance Rd_payload_storable (g : GSem nD τ sig) (r : ℕ) (d : Bool) :
    BI.Storable (upEmb : UEmb _ 𝕄) ((Rd I).payload g r d) := by
  show BI.Storable upEmb (if g.2 = .reg barS then barPay g.1.1 d
    else if kOf g.2 < 16 then sndPts fullShare.left g.1.1 (numOf g.2) (sndG I g.1.1)
    else rcvPts g.1.1 (numOf g.2) (rcvG I g.1.1))
  (repeat' split) <;> infer_instance

section Sched
variable (c : Dev nD) (k : Fin 16)

theorem duties_bar : (Rd I).duties (barCell c) 0 = Finset.univ := by dsimp only [Rd]; rw [if_pos ⟨rfl, rfl⟩, if_pos rfl]
theorem duties_snd : (Rd I).duties (sndCell c k) 0 = {false} := by dsimp only [Rd]; rw [if_pos ⟨rfl, rfl⟩, if_neg (sndS_ne_bar k)]
theorem duties_rcv : (Rd I).duties (rcvCell c k) 0 = {false} := by dsimp only [Rd]; rw [if_pos ⟨rfl, rfl⟩, if_neg (rcvS_ne_bar k)]
theorem duties_later (g : GSem nD τ sig) : ∀ r, 1 ≤ r → (Rd I).duties g r = ∅ :=
  fun r hr => by dsimp only [Rd]; rw [if_neg fun h => by omega]

theorem amount_bar (d : Bool) : (Rd I).amount (barCell c) 0 d = 1 := by dsimp only [Rd]; exact if_pos rfl
theorem amount_snd (d : Bool) : (Rd I).amount (sndCell c k) 0 d = N := by dsimp only [Rd]; exact if_neg (sndS_ne_bar k)
theorem amount_rcv (d : Bool) : (Rd I).amount (rcvCell c k) 0 d = N := by dsimp only [Rd]; exact if_neg (rcvS_ne_bar k)

theorem expect_bar : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_snd : (Rd I).expect (sndCell c k) 0 = N := by
  unfold Schedule.expect Schedule.amountOf; rw [duties_snd, Finset.sum_singleton, amount_snd]
theorem expect_rcv : (Rd I).expect (rcvCell c k) 0 = N := by
  unfold Schedule.expect Schedule.amountOf; rw [duties_rcv, Finset.sum_singleton, amount_rcv]

theorem payload_bar (b : Bool) : (Rd I).payload (barCell c) 0 b = barPay c b := by dsimp only [Rd]; exact if_pos rfl
theorem payload_snd (b : Bool) : (Rd I).payload (sndCell c k) 0 b = sndPts fullShare.left c k (sndG I c) := by
  dsimp only [Rd]; rw [if_neg (sndS_ne_bar k), if_pos (by rw [kOf_snd]; exact k.isLt), numOf_snd]
theorem payload_rcv (b : Bool) : (Rd I).payload (rcvCell c k) 0 b = rcvPts c k (rcvG I c) := by
  dsimp only [Rd]; rw [if_neg (rcvS_ne_bar k), if_neg (by rw [kOf_rcv]; omega), numOf_rcv]

theorem rest_bar : bigSep ((Rd I).duties (barCell c) 0 \ ∅) (fun b => (Rd I).payload (barCell c) 0 b)
    = bigSep Finset.univ fun k : Fin 16 => handed (F := F) (ptn c k) k := by
  have e : ∀ b : Bool, barPay (F := F) c b = bigSep (Finset.univ.filter fun k : Fin 16 => par k = b) fun k => handed (F := F) (ptn c k) k := fun b =>
    BI.bigSep_congr fun k hk => by unfold ptn; rw [(Finset.mem_filter.mp hk).2]
  rw [Finset.sdiff_empty, duties_bar, bigSep_univ_eq_bigSepL [false, true] (by decide) (by decide), bigSepL_cons_cons, bigSepL_singleton,
    payload_bar, payload_bar, e, e, BI.bigSep_filter_split Finset.univ (fun k : Fin 16 => par k = false)]
  have : (Finset.univ.filter fun k : Fin 16 => ¬ par k = false) = Finset.univ.filter fun k : Fin 16 => par k = true :=
    Finset.filter_congr fun k _ => by simp
  rw [this]
theorem rest_snd : bigSep ((Rd I).duties (sndCell c k) 0 \ ∅) (fun b => (Rd I).payload (sndCell c k) 0 b) = sndPts fullShare.left c k (sndG I c) := by
  rw [Finset.sdiff_empty, duties_snd, bigSep_singleton, payload_snd]
theorem rest_rcv : bigSep ((Rd I).duties (rcvCell c k) 0 \ ∅) (fun b => (Rd I).payload (rcvCell c k) 0 b) = rcvPts c k (rcvG I c) := by
  rw [Finset.sdiff_empty, duties_rcv, bigSep_singleton, payload_rcv]
end Sched

/-! ## What a device owes; the levels -/

/-- Before transfer `n`: the credits of that and all later ones to its partners' receive cells. -/
def OS (c : Dev nD) (n : ℕ) : CellTallies nD τ sig Unit := ∑ k ∈ span n 16, tallyAt (rcvCell (ptn c k) k) () N
def O₁ (c : Dev nD) : CellTallies nD τ sig Unit := OS c 0 + tallyAt (barCell (nb c true)) () 1
def O₀ (c : Dev nD) : CellTallies nD τ sig Unit := O₁ c + tallyAt (barCell (nb c false)) () 1

theorem OS_head (c : Dev nD) (k : Fin 16) : OS c k.val = OS c (k.val + 1) + tallyAt (rcvCell (ptn c k) k) () N := by
  have : span k.val 16 = insert k (span (k.val + 1) 16) := by
    ext j; rw [Finset.mem_insert, mem_span, mem_span, Fin.ext_iff]; omega
  unfold OS; rw [this, Finset.sum_insert (by rw [mem_span]; omega), add_comm]
theorem OS_nil (c : Dev nD) : OS c 16 = 0 := by
  have : span 16 16 = ∅ := by decide
  unfold OS; rw [this, Finset.sum_empty]

theorem OS_pos {c : Dev nD} {n : ℕ} {g : GSem nD τ sig} {u : Unit} (h : 0 < OS c n g u) : ∃ k : Fin 16, n ≤ k.val ∧ g = rcvCell (ptn c k) k := by
  by_contra hn
  refine absurd h (Nat.not_lt.mpr (le_of_eq ?_))
  unfold OS
  rw [Finset.sum_apply, Finsupp.finset_sum_apply]
  refine Finset.sum_eq_zero fun k hk => ?_
  rw [tallyAt_apply, if_neg fun h' => hn ⟨k, (mem_span.mp hk).1, h'.1⟩]
theorem O₀_pos {c : Dev nD} {g : GSem nD τ sig} {u : Unit} (h : 0 < O₀ c g u) :
    (∃ k : Fin 16, g = rcvCell (ptn c k) k) ∨ ∃ b, g = barCell (nb c b) := by
  unfold O₀ O₁ at h
  rw [Pi.add_apply, Finsupp.add_apply, Pi.add_apply, Finsupp.add_apply, tallyAt_apply, tallyAt_apply] at h
  by_contra hn; rw [not_or] at hn
  rw [if_neg fun h' => hn.2 ⟨_, h'.1⟩, if_neg fun h' => hn.2 ⟨_, h'.1⟩] at h
  simp only [Nat.add_zero] at h
  obtain ⟨k, -, hk⟩ := OS_pos h
  exact hn.1 ⟨k, hk⟩

def L (g : GSem nD τ sig) : Finset Unit := if g.1.2 = .tc then {()} else ∅
/-- Barrier cells at 1, the receive cell of transfer `k` at `2 + k`, the rest at 0. -/
def lv (g : GSem nD τ sig) (_ : Unit) : ℕ := if g.2 = .reg barS then 1 else if kOf g.2 < 16 then 0 else kOf g.2 - 14

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_rcv (c : Dev nD) (k : Fin 16) (u : Unit) : lv (rcvCell c k) u = k.val + 2 := by
  dsimp only [lv]; rw [if_neg (rcvS_ne_bar k), if_neg (by rw [kOf_rcv]; omega), kOf_rcv]; omega

omit [FloatOps F] in
theorem mayWait_bar (c : Dev nD) : (levAts L lv : sProp 𝕄) ⊢ MayWait (c : Thread nD τ) (.reg barS) () (OS c 0) :=
  MayOwe.of_cut (L := L) (lev := lv) 1 (fun p hp => by rw [Finset.mem_singleton.mp hp, L_tc]; exact Finset.mem_singleton_self _)
    (fun g u hg => by obtain ⟨k, -, rfl⟩ := OS_pos hg; rw [L_tc]; exact Finset.mem_singleton_self _)
    (fun p hp => by rw [Finset.mem_singleton.mp hp]; exact le_of_eq (lv_bar c ()))
    (fun g u hg => by obtain ⟨k, -, rfl⟩ := OS_pos hg; rw [lv_rcv]; omega)
omit [FloatOps F] in
theorem mayWait_rcv (c : Dev nD) (k : Fin 16) (n : ℕ) (h : k.val < n) : (levAts L lv : sProp 𝕄) ⊢ MayWait (c : Thread nD τ) (rcvS k) () (OS c n) :=
  MayOwe.of_cut (L := L) (lev := lv) (k.val + 2) (fun p hp => by rw [Finset.mem_singleton.mp hp, L_tc]; exact Finset.mem_singleton_self _)
    (fun g u hg => by obtain ⟨j, -, rfl⟩ := OS_pos hg; rw [L_tc]; exact Finset.mem_singleton_self _)
    (fun p hp => by rw [Finset.mem_singleton.mp hp]; exact le_of_eq (lv_rcv c k ()))
    (fun g u hg => by obtain ⟨j, hj, rfl⟩ := OS_pos hg; rw [lv_rcv]; omega)
omit [FloatOps F] in
/-- A wait on a staging semaphore is below everything owed. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨b, rfl⟩ <;> (rw [L_tc]; exact Finset.mem_singleton_self _))
      (fun p hp => by
        rw [Finset.mem_singleton.mp hp]; dsimp only [lv]; rw [if_neg (fun h => by cases h), if_pos (by show q.val - 6 < 16; omega)])
      (fun g u hg => by
        rcases O₀_pos hg with ⟨k, rfl⟩ | ⟨b, rfl⟩
        · rw [lv_rcv]; omega
        · rw [lv_bar]; exact Nat.one_pos)
  · rw [MayWait_zero]; iintro -; iempintro

/-! ## The cells and their records -/

/-- The cells of the protocol: every device's barrier and its thirty-two transfer cells. -/
def barCells : Finset (GSem nD τ sig) := Finset.univ.image barCell
def xfCells : Finset (GSem nD τ sig) := Finset.univ.image fun p : Dev nD × Fin 32 => (((p.1 : Thread nD τ), osem p.2) : GSem nD τ sig)

/-- The invariants of all cells, at names `K`. -/
def recs (K : GSem nD τ sig → ℕ) : sProp 𝕄 := bigSep (barCells ∪ xfCells) fun g => cellInv ER (Rd I) (K g) g
instance recs_persistent (K : GSem nD τ sig → ℕ) : BI.Persistent (recs I K) := by unfold recs; infer_instance

theorem recs_bar (K : GSem nD τ sig → ℕ) (c : Dev nD) : recs I K ⊢ cellInv ER (Rd I) (K (barCell c)) (barCell c) :=
  BI.bigSep_elim (Finset.mem_union_left _ (Finset.mem_image_of_mem _ (Finset.mem_univ c)))
theorem recs_osem (K : GSem nD τ sig → ℕ) (c : Dev nD) (j : Fin 32) :
    recs I K ⊢ cellInv ER (Rd I) (K ((c : Thread nD τ), osem j)) ((c : Thread nD τ), osem j) :=
  BI.bigSep_elim (Finset.mem_union_right _ (Finset.mem_image.mpr ⟨(c, j), Finset.mem_univ _, rfl⟩))
theorem recs_snd (K : GSem nD τ sig → ℕ) (c : Dev nD) (k : Fin 16) : recs I K ⊢ cellInv ER (Rd I) (K (sndCell c k)) (sndCell c k) :=
  recs_osem I K c _
theorem recs_rcv (K : GSem nD τ sig → ℕ) (c : Dev nD) (k : Fin 16) : recs I K ⊢ cellInv ER (Rd I) (K (rcvCell c k)) (rcvCell c k) :=
  recs_osem I K c _

/-! ## The result block -/

/-- The chunk an index of the result lies in, and its position there. -/
def chunkOf (i : S2x128x512.Idx) : Fin 8 :=
  ⟨4 * (i 0).val + (i 2).val / 128, by have h0 : (i 0).val < 2 := (i 0).isLt; have h2 : (i 2).val < 512 := (i 2).isLt; omega⟩
def inChunk (i : S2x128x512.Idx) : S1x128x128.Idx
  | 0 => (0 : Fin 1) | 1 => i 1 | 2 => (⟨(i 2).val % 128, Nat.mod_lt _ (Nat.succ_pos 127)⟩ : Fin 128)
def outG (c : Dev nD) : Vec F S2x128x512 .bf16 := fun i => res I c (chunkOf i) (inChunk i)

/-- The result buffer with its first `o` chunks written. -/
def outPts (c : Dev nD) (o : ℕ) : sProp 𝕄 :=
  iprop(∃ g : Vec F S2x128x512 .bf16, ⌜∀ i, (chunkOf i).val < o → g i = outG I c i⌝ ∗ ((c : Thread nD τ).loc cc0_stg5_0) ↦{fullShare} g)

/-! ## The state of a device -/

/-- After `s` stores into the send buffer, `n` transfers started, `a` received, `w` known to have left and `o` chunks of the
    result written; `h` is 16 once the partners have handed their slots over and 0 before. -/
def St (c : Dev nD) (h s n a w o : ℕ) : sProp 𝕄 :=
  iprop((∃ W, owes (c : Thread nD τ) (OS c n) W)
    ∗ seg (fun k => iprop(∃ f : Vec F S2x8x128x128 .bf16, sndPts fullShare c k f)) s 16
    ∗ seg (fun k => sndPts fullShare c k (sndG I c)) n s
    ∗ seg (fun k => iprop(dutyTok ER (sndCell c k) 0 false ∗ reached ER (sndCell c k) 0 ∗ dutyTok ER (rcvCell (ptn c k) k) 0 false
        ∗ atPos ER (sndCell c k) 0 ∅ 0)) n 16
    ∗ seg (fun k => handed (F := F) (ptn c k) k) n h
    ∗ seg (fun k => iprop(cred (tallyAt (sndCell c k) () N) ∗ atPos ER (sndCell c k) 0 ∅ 0 ∗ sndPts fullShare.right c k (sndG I c))) w n
    ∗ seg (fun k => iprop(cred (tallyAt (rcvCell c k) () N) ∗ atPos ER (rcvCell c k) 0 ∅ 0)) a 16
    ∗ seg (fun k => iprop(rcvPts c k (rcvG I c) ∗ atPos ER (rcvCell c k) (0 + 1) ∅ 0)) 0 a
    ∗ seg (fun k => iprop(sndPts fullShare c k (sndG I c) ∗ atPos ER (sndCell c k) (0 + 1) ∅ 0)) 0 w
    ∗ outPts I c o)

end Cert.Attn

end
-- ==== Proof.Steps.lean ====
/-
One step of the exchange at a time: what a store into the send buffer, a transfer, a wait on either side and a load from
either buffer do to the state of a device.
-/
module

public import proofs.«01_k».proof.Proof.Protocol

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (I : Dev nD → Inputs F) (K : GSem nD τ sig → ℕ) (c : Dev nD)
variable {h s n a w o : ℕ}

/-- A program of the device's core, run to the end. -/
abbrev Run (c : Dev nD) {α : Type} (p : Prog (TpuEff nD τ sig (Elt F) Λ₀ .tc) α) (Φ : α → sProp 𝕄) : sProp 𝕄 :=
  wp frame (wpE (defs₀ (F := F)) 𝒱₀ (c : Thread nD τ) none) Set.univ p Φ

theorem run_ret {α : Type} {x : α} {Φ : α → sProp 𝕄} : Φ x ⊢ Run c (.ret x) Φ := by
  unfold Run; rw [wp_ret]; iintro H; imodintro; iexact H

theorem run_device {α : Type} {Φ : α → sProp 𝕄} {p : Dev nD → Prog (TpuEff nD τ sig (Elt F) Λ₀ .tc) α} :
    Run c (p c) Φ ⊢ Run c (.op .deviceId p) Φ := by
  unfold Run; rw [wp_deviceId]

section Steps
variable (r q : ℕ) (k : Fin 16) (hk : k.val = 8 * r + q)
variable {hb : ∀ a, ![r, q, 0, 0] a + S1x1x128x128.size a ≤ S2x8x128x128.size a}

include hk in
/-- A load from the slot the next store goes to: what it reads is not used. -/
theorem step_dead {α : Type} {Φ : α → sProp 𝕄} (hs : s = k.val) {hl} {p : Vec F S1x1x128x128 .bf16 → Prog (TpuEff nD τ sig (Elt F) Λ₀ .tc) α} :
    St I c h s n a w o ⊢ iprop((∀ v, St I c h s n a w o -∗ Run c (p v) Φ)
      -∗ Run c (.op (.load sndM (slotR r q hb).toLoadRect hl) p) Φ) := by
  subst hs
  unfold St
  rw [seg_head _ k 16 k.isLt]
  iintro ⟨HO, ⟨⟨%f, Hf⟩, HA⟩, H⟩ Hk
  iapply (wp_load_rect 𝒱₀ (c : Thread nD τ) none Set.univ (m := sndM) (r := slotR r q hb) (S := slotSet k) (q := fullShare) (f := f)
    (subset_of_eq (snd_access_set r q k hk hb))) $$ [Hf]
  · unfold sndPts; iexact Hf
  iintro Hf
  iapply Hk
  isplitl [HO]; · iexact HO
  isplitl [HA Hf]
  · isplitl [Hf]
    · iexists f; unfold sndPts; iexact Hf
    · iexact HA
  iexact H

include hk in
theorem stored (hb : ∀ a, ![r, q, 0, 0] a + S1x1x128x128.size a ≤ S2x8x128x128.size a) (f : Vec F S2x8x128x128 .bf16) :
    ((sndM.access (slotR r q hb)).loc (c : Thread nD τ) ↦[slotSet k]{fullShare} ((sndM.access (slotR r q hb)).write (Elt F) f (val I c k) Finset.univ) : sProp 𝕄)
      = (((c : Thread nD τ).loc cc0_scratch0) ↦[slotSet k]{fullShare} fill (val I c)) :=
  pointsTo_congr (ℓ := (c : Thread nD τ).loc cc0_scratch0) (fun i hi => snd_write_fill r q k hk hb (val I c) f i hi)

include hk in
/-- The store of block `k` into its slot. -/
theorem step_store {α : Type} {Φ : α → sProp 𝕄} (hs : s = k.val) (hn : n ≤ s) {v : Vec F S1x1x128x128 .bf16} (hv : v = val I c k) {Mk} {hx} {hm} (hMk : Mk = Finset.univ)
    {p : PUnit → Prog (TpuEff nD τ sig (Elt F) Λ₀ .tc) α} :
    St I c h s n a w o ⊢ iprop((St I c h (s + 1) n a w o -∗ Run c (p ⟨⟩) Φ)
      -∗ Run c (.op (.store sndM (slotR r q hb) v Mk hx hm) p) Φ) := by
  subst hs hv hMk
  unfold St
  rw [seg_head _ k 16 k.isLt, seg_tail (fun k => sndPts fullShare c k (sndG I c)) n k hn]
  iintro ⟨HO, ⟨⟨%f, Hf⟩, HA⟩, HB, H⟩ Hk
  iapply (wp_store 𝒱₀ (c : Thread nD τ) none Set.univ (m := sndM) (r := slotR r q hb) (S := slotSet k) (f := f)
    (subset_of_eq (snd_access_set r q k hk hb))) $$ [Hf]
  · unfold sndPts; iexact Hf
  iintro Hf
  iapply Hk
  isplitl [HO]; · iexact HO
  isplitl [HA]; · iexact HA
  isplitl [HB Hf]
  · isplitl [Hf]
    · unfold sndPts sndG
      iapply (Entails.of_eq (stored I c r q k hk hb f))
      iexact Hf
    · iexact HB
  iexact H

include hk in
/-- Transfer `k` starts: the partner's slot and half the source go with it. -/
theorem step_send {α : Type} {Φ : α → sProp 𝕄} (hn : n = k.val) (hns : n < s) (hh : h = 16) (hw : w ≤ n) {d : Dev nD} (hd : d = ptn c k) {sS sR : SemLoc sig} (hS : sS = sndS k) (hR : sR = rcvS k)
    {hsc} {h₁} {h₂} {h₃} {p : PUnit → Prog (TpuEff nD τ sig (Elt F) Λ₀ .tc) α} :
    iprop(recs I K ∗ St I c h s n a w o) ⊢ iprop((St I c h s (n + 1) a w o -∗ Run c (p ⟨⟩) Φ)
      -∗ Run c (.op (.enqueueDma (sndV r q hb) (.remote (Dev.tc d) (rcvV r q hb) sS hsc) sR h₁ h₂ h₃) p) Φ) := by
  subst hn hd hS hR hh
  unfold St
  rw [seg_head (fun k => sndPts fullShare c k (sndG I c)) k s hns, seg_head _ k 16 k.isLt, seg_head (fun k => handed (F := F) (ptn c k) k) k 16 k.isLt,
    seg_tail _ w k hw]
  iintro ⟨#HR, ⟨%W, HO⟩, HA, ⟨Hf, HB⟩, ⟨⟨HtS, #HrS, HtR, HaS⟩, HT⟩, ⟨Hh, HH⟩, HSn, H⟩ Hk
  unfold handed
  icases Hh with ⟨⟨%g, Hg⟩, #HrR⟩
  unfold sndPts
  ihave Hf2 := (pointsTo_share (PosShare.mem_left_op_right fullShare)).1 $$ Hf
  icases Hf2 with ⟨HfL, HfR⟩
  unfold rcvPts
  iapply (Rounds.wp_send_pointsTo 𝒱₀ ER (Rd I) (c : Thread nD τ) none (c' := (ptn c k : Thread nD τ)) (src := sndV r q hb) (dst := rcvV r q hb)
      (sS := sndS k) (sem := rcvS k) (q := fullShare.left) (fs := sndG I c) (κ₁ := K (sndCell c k)) (κ₂ := K (rcvCell (ptn c k) k))
      (r₁ := 0) (r₂ := 0) (d₁ := false) (d₂ := false) (fd := g)
      (by rw [duties_snd]; exact Finset.mem_singleton_self _) (by rw [duties_rcv]; exact Finset.mem_singleton_self _)
      () () N rfl (amount_snd I c k false) (amount_rcv I (ptn c k) k false) (OS c (k.val + 1)) (OS_head c k) (W := W)
      (by rw [payload_snd, sndV_set r q k hk hb]; unfold sndPts; exact BI.Entails.refl _)
      (by rw [payload_rcv, rcvV_set r q k hk hb]; unfold rcvPts
          rw [pointsTo_congr (fun i hi => (land r q k hk hb (sndG I c) g i hi).trans (rcvG_eq I c k i hi).symm)])) $$ [HfL Hg HO HtS HtR]
  · isplitr; · iapply (recs_snd I K c k); iexact HR
    isplitr; · iapply (recs_rcv I K (ptn c k) k); iexact HR
    isplitl [HfL]; · rw [sndV_set r q k hk hb]; iexact HfL
    isplitl [Hg]; · rw [rcvV_set r q k hk hb]; iexact Hg
    isplitl [HO]; · iexact HO
    isplitl [HtS]; · iexact HtS
    isplitr; · iexact HrS
    isplitl [HtR]; · iexact HtR
    iexact HrR
  iintro ⟨Hc, HO⟩
  iapply Hk
  isplitl [HO]; · iexists W; iexact HO
  isplitl [HA]; · iexact HA
  isplitl [HB]; · iexact HB
  isplitl [HT]; · iexact HT
  isplitl [HH]; · iexact HH
  isplitl [HSn Hc HaS HfR]
  · isplitl [Hc HaS HfR]
    · isplitl [Hc]; · iexact Hc
      isplitl [HaS]; · iexact HaS
      iexact HfR
    · iexact HSn
  iexact H

/-- The wait for the partner's block `k`. -/
theorem step_recv {α : Type} {Φ : α → sProp 𝕄} (ha : a = k.val) (han : a < n) {sR : DmaSem sig} (hR : SemLoc.dma sR = rcvS k) {r' q' : ℕ} {hb'} {h₁} {h₂}
    {p : PUnit → Prog (TpuEff nD τ sig (Elt F) Λ₀ .tc) α} :
    iprop(recs I K ∗ levAts L lv ∗ St I c h s n a w o) ⊢ iprop((St I c h s n (a + 1) w o -∗ Run c (p ⟨⟩) Φ)
      -∗ Run c (.op (.waitDma2 sR (sndV r' q' hb') (rcvV r q hb) h₁ h₂) p) Φ) := by
  subst ha
  unfold St
  rw [seg_head (fun k => iprop(cred (tallyAt (rcvCell c k) () N) ∗ atPos ER (rcvCell c k) 0 ∅ 0)) k 16 k.isLt,
    seg_tail (fun k => iprop(rcvPts c k (rcvG I c) ∗ atPos ER (rcvCell c k) (0 + 1) ∅ 0)) 0 k (Nat.zero_le _)]
  iintro ⟨#HR, #HL, ⟨%W, HO⟩, HA, HB, HT, HH, HSn, ⟨⟨Hc, Hat⟩, HRc⟩, HG, H⟩ Hk
  iapply (Rounds.wp_wait_rest_token 𝒱₀ ER (Rd I) (c : Thread nD τ) none (κ := K (rcvCell c k)) (sm := rcvS k) (k' := N)
      (by rw [← hR]; exact wpE_waitDma2_eq (src := sndV r' q' hb') (dst := rcvV r q hb) 𝒱₀ (c : Thread nD τ) none Set.univ) (Set.mem_univ _) () (O := OS c n) (W := W) (R := 0) (m := 0) (T := ∅)
      ((Nat.zero_add _).trans (expect_rcv I c k).symm)) $$ [Hc HO Hat]
  · isplitr; · iapply (recs_rcv I K c k); iexact HR
    isplitl [Hc]; · iexact Hc
    isplitl [HO]; · iexact HO
    isplitr; · iapply (mayWait_rcv c k n han); iexact HL
    iexact Hat
  iintro ⟨HO, Hat, -, Hpay⟩
  ihave Hp := (Entails.of_eq (rest_rcv I c k)) $$ Hpay
  iapply Hk
  isplitl [HO]; · iexists _; iexact HO
  isplitl [HA]; · iexact HA
  isplitl [HB]; · iexact HB
  isplitl [HT]; · iexact HT
  isplitl [HH]; · iexact HH
  isplitl [HSn]; · iexact HSn
  isplitl [HRc]; · iexact HRc
  isplitl [HG Hat Hp]
  · isplitl [Hat Hp]
    · isplitl [Hp]; · iexact Hp
      iexact Hat
    · iexact HG
  iexact H

/-- The wait for transfer `k` to have left. -/
theorem step_left {α : Type} {Φ : α → sProp 𝕄} (hw : w = k.val) (hn : n = 16) {sS : DmaSem sig} (hS : SemLoc.dma sS = sndS k) {r' q' : ℕ} {hb'} {h₁} {h₂}
    {p : PUnit → Prog (TpuEff nD τ sig (Elt F) Λ₀ .tc) α} :
    iprop(recs I K ∗ St I c h s n a w o) ⊢ iprop((St I c h s n a (w + 1) o -∗ Run c (p ⟨⟩) Φ)
      -∗ Run c (.op (.waitDma2 sS (rcvV r' q' hb') (sndV r q hb) h₁ h₂) p) Φ) := by
  subst hw hn
  unfold St
  rw [seg_head _ k 16 k.isLt,
    seg_tail (fun k => iprop(sndPts fullShare c k (sndG I c) ∗ atPos ER (sndCell c k) (0 + 1) ∅ 0)) 0 k (Nat.zero_le _), OS_nil]
  iintro ⟨#HR, ⟨%W, HO⟩, HA, HB, HT, HH, ⟨⟨Hc, Hat, HfR⟩, HSn⟩, HRc, HG, HD, H⟩ Hk
  iapply (Rounds.wp_wait_rest_token 𝒱₀ ER (Rd I) (c : Thread nD τ) none (κ := K (sndCell c k)) (sm := sndS k) (k' := N)
      (by rw [← hS]; exact wpE_waitDma2_eq (src := rcvV r' q' hb') (dst := sndV r q hb) 𝒱₀ (c : Thread nD τ) none Set.univ) (Set.mem_univ _) () (O := 0) (W := W) (R := 0) (m := 0) (T := ∅)
      ((Nat.zero_add _).trans (expect_snd I c k).symm)) $$ [Hc HO Hat]
  · isplitr; · iapply (recs_snd I K c k); iexact HR
    isplitl [Hc]; · iexact Hc
    isplitl [HO]; · iexact HO
    isplitr; · rw [MayWait_zero]; iempintro
    iexact Hat
  iintro ⟨HO, Hat, -, Hpay⟩
  ihave Hp := (Entails.of_eq (rest_snd I c k)) $$ Hpay
  iapply Hk
  isplitl [HO]; · iexists _; iexact HO
  isplitl [HA]; · iexact HA
  isplitl [HB]; · iexact HB
  isplitl [HT]; · iexact HT
  isplitl [HH]; · iexact HH
  isplitl [HSn]; · iexact HSn
  isplitl [HRc]; · iexact HRc
  isplitl [HG]; · iexact HG
  isplitl [HD Hat Hp HfR]
  · isplitl [Hat Hp HfR]
    · isplitl [Hp HfR]
      · unfold sndPts
        iapply (pointsTo_share (PosShare.mem_left_op_right fullShare)).2
        isplitl [Hp]; · iexact Hp
        iexact HfR
      · iexact Hat
    · iexact HD
  iexact H

include hk in
/-- A load of the own block `k`, sent already: the half kept back. -/
theorem step_own {α : Type} {Φ : α → sProp 𝕄} (hkn : w ≤ k.val ∧ k.val < n) {hl} {p : Vec F S1x1x128x128 .bf16 → Prog (TpuEff nD τ sig (Elt F) Λ₀ .tc) α} :
    St I c h s n a w o ⊢ iprop((St I c h s n a w o -∗ Run c (p (val I c k)) Φ)
      -∗ Run c (.op (.load sndM (slotR r q hb).toLoadRect hl) p) Φ) := by
  unfold St
  rw [seg_at _ w n k hkn]
  iintro ⟨HO, HA, HB, HT, HH, ⟨⟨Hc, Hat, Hf⟩, HSn⟩, H⟩ Hk
  iapply (wp_load_rect 𝒱₀ (c : Thread nD τ) none Set.univ (m := sndM) (r := slotR r q hb) (S := slotSet k) (q := fullShare.right) (f := sndG I c)
    (subset_of_eq (snd_access_set r q k hk hb))) $$ [Hf]
  · unfold sndPts; iexact Hf
  iintro Hf
  unfold sndG
  rw [snd_read_fill r q k hk hb]
  iapply Hk
  isplitl [HO]; · iexact HO
  isplitl [HA]; · iexact HA
  isplitl [HB]; · iexact HB
  isplitl [HT]; · iexact HT
  isplitl [HH]; · iexact HH
  isplitl [HSn Hf Hc Hat]
  · isplitl [Hf Hc Hat]
    · isplitl [Hc]; · iexact Hc
      isplitl [Hat]; · iexact Hat
      unfold sndPts; iexact Hf
    · iexact HSn
  iexact H

include hk in
/-- A load of the partner's block `k`, received already. -/
theorem step_theirs {α : Type} {Φ : α → sProp 𝕄} (hka : k.val < a) {hl} {p : Vec F S1x1x128x128 .bf16 → Prog (TpuEff nD τ sig (Elt F) Λ₀ .tc) α} :
    St I c h s n a w o ⊢ iprop((St I c h s n a w o -∗ Run c (p (val I (ptn c k) k)) Φ)
      -∗ Run c (.op (.load rcvM (slotR r q hb).toLoadRect hl) p) Φ) := by
  unfold St
  rw [seg_at (fun k => iprop(rcvPts c k (rcvG I c) ∗ atPos ER (rcvCell c k) (0 + 1) ∅ 0)) 0 a k ⟨Nat.zero_le _, hka⟩]
  iintro ⟨HO, HA, HB, HT, HH, HSn, HRc, ⟨⟨Hf, Hat⟩, HG⟩, H⟩ Hk
  iapply (wp_load_rect 𝒱₀ (c : Thread nD τ) none Set.univ (m := rcvM) (r := slotR r q hb) (S := slotSet k) (q := fullShare) (f := rcvG I c)
    (subset_of_eq (rcv_access_set r q k hk hb))) $$ [Hf]
  · unfold rcvPts; iexact Hf
  iintro Hf
  unfold rcvG
  rw [rcv_read_fill r q k hk hb]
  iapply Hk
  isplitl [HO]; · iexact HO
  isplitl [HA]; · iexact HA
  isplitl [HB]; · iexact HB
  isplitl [HT]; · iexact HT
  isplitl [HH]; · iexact HH
  isplitl [HSn]; · iexact HSn
  isplitl [HRc]; · iexact HRc
  isplitl [HG Hf Hat]
  · isplitl [Hf Hat]
    · isplitl [Hf]; · unfold rcvPts; iexact Hf
      iexact Hat
    · iexact HG
  iexact H
end Steps

/-! ## The barrier -/

/-- The signal to the partner across bit `b`: every own slot its transfers write goes with it. -/
theorem step_signal {α : Type} {Φ : α → sProp 𝕄} (b : Bool) {d : Dev nD} (hd : d = nb c b) {k' : ℤ} (hk' : k' = 1) {O O' : CellTallies nD τ sig Unit}
    (hO : O' = O + tallyAt (barCell (nb c b)) () 1) {W : Waits sig Unit} {p : PUnit → Prog (TpuEff nD τ sig (Elt F) Λ₀ .tc) α} :
    iprop(recs I K ∗ owes (c : Thread nD τ) O' W ∗ dutyTok ER (barCell (nb c b)) 0 b ∗ reached ER (barCell (nb c b)) 0
        ∗ bigSep (Finset.univ.filter fun k : Fin 16 => par k = b) (fun k => handed (F := F) c k))
      ⊢ iprop((owes (c : Thread nD τ) O W -∗ Run c (p ⟨⟩) Φ) -∗ Run c (.op (.semSignal (d, Proc.tc) barS k') p) Φ) := by
  subst hd hk' hO
  iintro ⟨#HR, HO, Ht, #Hr, Hh⟩ Hk
  iapply (Rounds.wp_signal 𝒱₀ ER (Rd I) (c : Thread nD τ) none (dst := (nb c b : Thread nD τ)) (sem := barS) (r := 0) (d := b) (κ := K (barCell (nb c b)))
      (by rw [duties_bar]; exact Finset.mem_univ _) (amount_bar I (nb c b) b) () O rfl) $$ [HO Ht Hh]
  · isplitr; · iapply (recs_bar I K (nb c b)); iexact HR
    isplitl [HO]; · iexact HO
    isplitl [Ht]; · iexact Ht
    isplitl [Hh]
    · rw [payload_bar]; unfold barPay; rw [nb_nb]; iexact Hh
    · iexact Hr
  iexact Hk

/-- The wait for both partners: their slots come with it. -/
theorem step_barrier {α : Type} {Φ : α → sProp 𝕄} {k' : ℤ} (hk' : k' = 2) {s : ℕ} {p : PUnit → Prog (TpuEff nD τ sig (Elt F) Λ₀ .tc) α} :
    iprop(recs I K ∗ levAts L lv ∗ cred (tallyAt (barCell c) () 2) ∗ atPos ER (barCell c) 0 ∅ 0 ∗ St I c 0 s 0 0 0 0)
      ⊢ iprop(((atPos ER (barCell c) (0 + 1) ∅ 0 ∗ St I c 16 s 0 0 0 0) -∗ Run c (p ⟨⟩) Φ) -∗ Run c (.op (.semWait barS k') p) Φ) := by
  subst hk'
  unfold St
  iintro ⟨#HR, #HL, Hc, Hat, ⟨%W, HO⟩, HA, HB, HT, -, H⟩ Hk
  iapply (Rounds.wp_wait_rest_token 𝒱₀ ER (Rd I) (c : Thread nD τ) none (κ := K (barCell c))
      (wpE_semWait_eq 𝒱₀ (c : Thread nD τ) none Set.univ) (Set.mem_univ _) () (O := OS c 0) (W := W) (R := 0) (m := 0) (T := ∅)
      ((Nat.zero_add 2).trans (expect_bar I c).symm)) $$ [Hc HO Hat]
  · isplitr; · iapply (recs_bar I K c); iexact HR
    isplitl [Hc]; · iexact Hc
    isplitl [HO]; · iexact HO
    isplitr; · iapply (mayWait_bar c); iexact HL
    iexact Hat
  iintro ⟨HO, Hat, -, Hpay⟩
  ihave Hp := (Entails.of_eq ((rest_bar I c).trans (seg_all _).symm)) $$ Hpay
  iapply Hk
  isplitl [Hat]; · iexact Hat
  isplitl [HO]; · iexists _; iexact HO
  isplitl [HA]; · iexact HA
  isplitl [HB]; · iexact HB
  isplitl [HT]; · iexact HT
  isplitl [Hp]; · iexact Hp
  iexact H

/-! ## The result buffer -/

section Out
variable (b t : ℕ) (k : Fin 8) (ht : t = 128 * (k.val % 4)) (hbk : b = k.val / 4)
variable {hb : ∀ a, ![b, 0, t] a + S1x128x128.size a ≤ S2x128x512.size a}

abbrev outM : Memref sig .tc .vmem S2x128x512 .bf16 := Memref.whole cc0_stg5_0
abbrev outR (b t : ℕ) (hb : ∀ a, ![b, 0, t] a + S1x128x128.size a ≤ S2x128x512.size a) : Rect S2x128x512 :=
  Rect.unit (s := S2x128x512) ![b, 0, t] S1x128x128.size hb

include ht hbk in
theorem chunk_emb (x : S1x128x128.Idx) : chunkOf ((outR b t hb).emb x) = k ∧ inChunk ((outR b t hb).emb x) = x := by
  have x0 : (x 0).val < 1 := (x 0).isLt
  have x2 : (x 2).val < 128 := (x 2).isLt
  refine ⟨Fin.ext ?_, funext fun a => ?_⟩
  · show 4 * (b + 1 * (x 0).val) + (t + 1 * (x 2).val) / 128 = k.val
    omega
  · match a with
    | 0 => exact Subsingleton.elim (α := Fin 1) _ _
    | 1 => exact Fin.ext (show 0 + 1 * (x 1).val = (x 1).val by omega)
    | 2 => exact Fin.ext (show (t + 1 * (x 2).val) % 128 = (x 2).val by omega)

include ht hbk in
theorem chunk_mem (i : S2x128x512.Idx) (hi : chunkOf i = k) : i ∈ (outR b t hb).set := by
  have h : 4 * (i 0).val + (i 2).val / 128 = k.val := congrArg Fin.val hi
  have i0 : (i 0).val < 2 := (i 0).isLt
  have i1 : (i 1).val < 128 := (i 1).isLt
  have i2 : (i 2).val < 512 := (i 2).isLt
  rw [Rect.mem_set_unit]
  intro a
  match a with
  | 0 => exact (⟨by omega, by omega⟩ : b ≤ (i 0).val ∧ (i 0).val < b + 1)
  | 1 => exact (⟨by omega, by omega⟩ : 0 ≤ (i 1).val ∧ (i 1).val < 0 + 128)
  | 2 => exact (⟨by omega, by omega⟩ : t ≤ (i 2).val ∧ (i 2).val < t + 128)

include ht hbk in
theorem out_write (g : Vec F S2x128x512 .bf16) (hg : ∀ i, (chunkOf i).val < k.val → g i = outG I c i) (i : S2x128x512.Idx) (hi : (chunkOf i).val < k.val + 1) :
    (outM.access (outR b t hb)).write (Elt F) g (res I c k) Finset.univ i = outG I c i := by
  by_cases hm : i ∈ (outM.access (outR b t hb)).set
  · obtain ⟨x, -, rfl⟩ := Finset.mem_map.mp hm
    refine (View.write_emb_of_mem (v := outM.access (outR b t hb)) g (res I c k) (Finset.mem_univ x)).trans ?_
    have e := chunk_emb b t k ht hbk (hb := hb) x
    show res I c k x = res I c (chunkOf ((outR b t hb).emb x)) (inChunk ((outR b t hb).emb x))
    rw [e.1, e.2]
  · refine (View.write_of_not_mem (v := outM.access (outR b t hb)) g (res I c k) Finset.univ hm).trans (hg i ?_)
    have e : (outM.access (outR b t hb)).set = (outR b t hb).set := View.set_slice_whole _ _
    have : (chunkOf i).val ≠ k.val := fun h => hm (e ▸ chunk_mem b t k ht hbk i (Fin.ext h))
    omega

/-- The load before a store of the result: what it reads is not used. -/
theorem step_odead {α : Type} {Φ : α → sProp 𝕄} {hl} {p : Vec F S1x128x128 .bf16 → Prog (TpuEff nD τ sig (Elt F) Λ₀ .tc) α} :
    St I c h s n a w o ⊢ iprop((∀ v, St I c h s n a w o -∗ Run c (p v) Φ)
      -∗ Run c (.op (.load outM (outR b t hb).toLoadRect hl) p) Φ) := by
  unfold St outPts
  iintro ⟨HO, HA, HB, HT, HH, HSn, HRc, HG, HD, ⟨%g, %hg, Hg⟩⟩ Hk
  iapply (wp_load_rect 𝒱₀ (c : Thread nD τ) none Set.univ (m := outM) (r := outR b t hb) (S := Finset.univ) (q := fullShare) (f := g)
    (Finset.subset_univ _)) $$ [Hg]
  · iexact Hg
  iintro Hg
  iapply Hk
  isplitl [HO]; · iexact HO
  isplitl [HA]; · iexact HA
  isplitl [HB]; · iexact HB
  isplitl [HT]; · iexact HT
  isplitl [HH]; · iexact HH
  isplitl [HSn]; · iexact HSn
  isplitl [HRc]; · iexact HRc
  isplitl [HG]; · iexact HG
  isplitl [HD]; · iexact HD
  iexists g
  isplitr; · ipureintro; exact hg
  iexact Hg

include ht hbk in
/-- The store of chunk `k` of the result. -/
theorem step_out {α : Type} {Φ : α → sProp 𝕄} (ho : o = k.val) {v : Vec F S1x128x128 .bf16} (hv : v = res I c k) {Mk} {hx} {hm} (hMk : Mk = Finset.univ)
    {p : PUnit → Prog (TpuEff nD τ sig (Elt F) Λ₀ .tc) α} :
    St I c h s n a w o ⊢ iprop((St I c h s n a w (o + 1) -∗ Run c (p ⟨⟩) Φ)
      -∗ Run c (.op (.store outM (outR b t hb) v Mk hx hm) p) Φ) := by
  subst ho hv hMk
  unfold St outPts
  iintro ⟨HO, HA, HB, HT, HH, HSn, HRc, HG, HD, ⟨%g, %hg, Hg⟩⟩ Hk
  iapply (wp_store 𝒱₀ (c : Thread nD τ) none Set.univ (m := outM) (r := outR b t hb) (S := Finset.univ) (f := g)
    (Finset.subset_univ _)) $$ [Hg]
  · iexact Hg
  iintro Hg
  iapply Hk
  isplitl [HO]; · iexact HO
  isplitl [HA]; · iexact HA
  isplitl [HB]; · iexact HB
  isplitl [HT]; · iexact HT
  isplitl [HH]; · iexact HH
  isplitl [HSn]; · iexact HSn
  isplitl [HRc]; · iexact HRc
  isplitl [HG]; · iexact HG
  isplitl [HD]; · iexact HD
  iexists (outM.access (outR b t hb)).write (Elt F) g (res I c k) Finset.univ
  isplitr; · ipureintro; exact fun i hi => out_write I c b t k ht hbk g hg i hi
  iexact Hg
end Out

/-! ## The inputs -/

def xPts (c : Dev nD) : sProp 𝕄 := ((c : Thread nD τ).loc cc0_stg0_0) ↦{fullShare} ((I c).x : Vec F S2x128x512 .bf16)
theorem load_x {α : Type} {Φ : α → sProp 𝕄} {r : Rect S2x128x512} {hl} {p : Vec F r.shape .bf16 → Prog (TpuEff nD τ sig (Elt F) Λ₀ .tc) α} :
    xPts I c ⊢ iprop((xPts I c -∗ Run c (p (cut (I c).x r)) Φ)
      -∗ Run c (.op (.load (Memref.whole cc0_stg0_0 : Memref sig .tc .vmem S2x128x512 .bf16) r.toLoadRect hl) p) Φ) := by
  unfold xPts
  exact wp_load_rect 𝒱₀ (c : Thread nD τ) none Set.univ (m := (Memref.whole cc0_stg0_0 : Memref sig .tc .vmem S2x128x512 .bf16)) (r := r) (Finset.subset_univ _)

def wqPts (c : Dev nD) : sProp 𝕄 := ((c : Thread nD τ).loc cc0_stg1_0) ↦{fullShare} ((I c).wq : Vec F S512x256 .bf16)
theorem load_wq {α : Type} {Φ : α → sProp 𝕄} {r : Rect S512x256} {hl} {p : Vec F r.shape .bf16 → Prog (TpuEff nD τ sig (Elt F) Λ₀ .tc) α} :
    wqPts I c ⊢ iprop((wqPts I c -∗ Run c (p (cut (I c).wq r)) Φ)
      -∗ Run c (.op (.load (Memref.whole cc0_stg1_0 : Memref sig .tc .vmem S512x256 .bf16) r.toLoadRect hl) p) Φ) := by
  unfold wqPts
  exact wp_load_rect 𝒱₀ (c : Thread nD τ) none Set.univ (m := (Memref.whole cc0_stg1_0 : Memref sig .tc .vmem S512x256 .bf16)) (r := r) (Finset.subset_univ _)

def kPts (c : Dev nD) : sProp 𝕄 := ((c : Thread nD τ).loc cc0_stg2_0) ↦{fullShare} ((I c).k : Vec F S2x128x256 .bf16)
theorem load_k {α : Type} {Φ : α → sProp 𝕄} {r : Rect S2x128x256} {hl} {p : Vec F r.shape .bf16 → Prog (TpuEff nD τ sig (Elt F) Λ₀ .tc) α} :
    kPts I c ⊢ iprop((kPts I c -∗ Run c (p (cut (I c).k r)) Φ)
      -∗ Run c (.op (.load (Memref.whole cc0_stg2_0 : Memref sig .tc .vmem S2x128x256 .bf16) r.toLoadRect hl) p) Φ) := by
  unfold kPts
  exact wp_load_rect 𝒱₀ (c : Thread nD τ) none Set.univ (m := (Memref.whole cc0_stg2_0 : Memref sig .tc .vmem S2x128x256 .bf16)) (r := r) (Finset.subset_univ _)

def vPts (c : Dev nD) : sProp 𝕄 := ((c : Thread nD τ).loc cc0_stg3_0) ↦{fullShare} ((I c).v : Vec F S2x128x256 .bf16)
theorem load_v {α : Type} {Φ : α → sProp 𝕄} {r : Rect S2x128x256} {hl} {p : Vec F r.shape .bf16 → Prog (TpuEff nD τ sig (Elt F) Λ₀ .tc) α} :
    vPts I c ⊢ iprop((vPts I c -∗ Run c (p (cut (I c).v r)) Φ)
      -∗ Run c (.op (.load (Memref.whole cc0_stg3_0 : Memref sig .tc .vmem S2x128x256 .bf16) r.toLoadRect hl) p) Φ) := by
  unfold vPts
  exact wp_load_rect 𝒱₀ (c : Thread nD τ) none Set.univ (m := (Memref.whole cc0_stg3_0 : Memref sig .tc .vmem S2x128x256 .bf16)) (r := r) (Finset.subset_univ _)

def woPts (c : Dev nD) : sProp 𝕄 := ((c : Thread nD τ).loc cc0_stg4_0) ↦{fullShare} ((I c).wo : Vec F S256x512 .bf16)
theorem load_wo {α : Type} {Φ : α → sProp 𝕄} {r : Rect S256x512} {hl} {p : Vec F r.shape .bf16 → Prog (TpuEff nD τ sig (Elt F) Λ₀ .tc) α} :
    woPts I c ⊢ iprop((woPts I c -∗ Run c (p (cut (I c).wo r)) Φ)
      -∗ Run c (.op (.load (Memref.whole cc0_stg4_0 : Memref sig .tc .vmem S256x512 .bf16) r.toLoadRect hl) p) Φ) := by
  unfold woPts
  exact wp_load_rect 𝒱₀ (c : Thread nD τ) none Set.univ (m := (Memref.whole cc0_stg4_0 : Memref sig .tc .vmem S256x512 .bf16)) (r := r) (Finset.subset_univ _)

end Cert.Attn

end
-- ==== Proof.Parts1.lean ====
/-
The first half of the body, part by part: the signals, the partial products, and the first round of the exchange.
-/
module

public import proofs.«01_k».proof.Proof.Steps

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inputs F) (K : GSem nD τ sig → ℕ) (c : Dev nD) (i : grid0.Coords)

/-- The five input windows, each whole. -/
def ins (c : Dev nD) : sProp 𝕄 := iprop(xPts I c ∗ wqPts I c ∗ kPts I c ∗ vPts I c ∗ woPts I c)

theorem part1  (W : Waits sig Unit) {Φ : (Σ' (d0 : Dev nD) (v3 : BitVec 32) (v4 : BitVec 32) (v5 : Sems sig S_) (v11 : FVec F S512x256 .bf16) (v13 : FVec F S256x512 .bf16) (v19 : FVec F S128x256 .bf16) (v24 : FVec F S128x64 .bf16) (v26 : FVec F S128x128 .f32), FVec F S128x1 .f32) → sProp 𝕄} :
    iprop(recs I K ∗ levAts L lv ∗ owes (c : Thread nD τ) (O₀ c) W ∗ dutyTok ER (barCell (nb c false)) 0 false ∗ reached ER (barCell (nb c false)) 0 ∗ bigSep (Finset.univ.filter fun k : Fin 16 => par k = false) (fun k => handed (F := F) c k) ∗ dutyTok ER (barCell (nb c true)) 0 true ∗ reached ER (barCell (nb c true)) 0 ∗ bigSep (Finset.univ.filter fun k : Fin 16 => par k = true) (fun k => handed (F := F) c k) ∗ ins I c)
      ⊢ iprop(((owes (c : Thread nD τ) (OS c 0) W ∗ ins I c) -∗ Φ (⟨c, Scalar.xori (Scalar.remsi (Scalar.divsi (Dev.word c) 1#32) 4#32) 1#32, Scalar.subi 3#32 (Scalar.remsi (Scalar.divsi (Dev.word c) 1#32) 4#32), SemArray.scalar (sig.barrier 0 rfl), k0_pay1 (cut (I c).wq (Rect.unit (s := S512x256) ![0, 0] S512x256.size inb_S512x256_S512x256_0_0)), k0_pay2 (cut (I c).wo (Rect.unit (s := S256x512) ![0, 0] S256x512.size inb_S256x512_S256x512_0_0)), k0_pay3 (cut (I c).wq (Rect.unit (s := S512x256) ![0, 0] S512x256.size inb_S512x256_S512x256_0_0)) (cut (I c).x (Rect.unit (s := S2x128x512) ![0, 0, 0] S1x128x512.size inb_S2x128x512_S1x128x512_0_0_0)), k0_pay4 (cut (I c).v (Rect.unit (s := S2x128x256) ![0, 0, 0] S1x128x64.size inb_S2x128x256_S1x128x64_0_0_0)), k0_pay5 (cut (I c).wq (Rect.unit (s := S512x256) ![0, 0] S512x256.size inb_S512x256_S512x256_0_0)) (cut (I c).x (Rect.unit (s := S2x128x512) ![0, 0, 0] S1x128x512.size inb_S2x128x512_S1x128x512_0_0_0)) (cut (I c).k (Rect.unit (s := S2x128x256) ![0, 0, 0] S1x128x64.size inb_S2x128x256_S1x128x64_0_0_0)), k0_pay6 (cut (I c).wq (Rect.unit (s := S512x256) ![0, 0] S512x256.size inb_S512x256_S512x256_0_0)) (cut (I c).x (Rect.unit (s := S2x128x512) ![0, 0, 0] S1x128x512.size inb_S2x128x512_S1x128x512_0_0_0)) (cut (I c).k (Rect.unit (s := S2x128x256) ![0, 0, 0] S1x128x64.size inb_S2x128x256_S1x128x64_0_0_0))⟩))
        -∗ Run c (k0_part1 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 ) Φ) := by
  rw [k0_part1_eq_skeleton]; unfold k0_part1_skel
  simp only [semSignalWord, semWaitWord, Prog.lift, Prog.bind_op, Prog.bind_ret, Prog.pure_eq_ret]
  iintro ⟨#HR, #HL, HO, Ht1, #Hr1, Hs1, Ht2, #Hr2, Hs2, Hin⟩ Hk
  unfold ins
  icases Hin with ⟨Hx, Hwq, Hk', Hv, Hwo⟩
  iapply (run_device c)
  iapply (step_signal I K c false (dev1_eq c) (by decide) (O := O₁ c) rfl) $$ [HO Ht1 Hs1]
  · isplitr; · iexact HR
    isplitl [HO]; · iexact HO
    isplitl [Ht1]; · iexact Ht1
    isplitr; · iexact Hr1
    iexact Hs1
  iintro HO
  iapply (step_signal I K c true (dev2_eq c) (by decide) (O := OS c 0) rfl) $$ [HO Ht2 Hs2]
  · isplitr; · iexact HR
    isplitl [HO]; · iexact HO
    isplitl [Ht2]; · iexact Ht2
    isplitr; · iexact Hr2
    iexact Hs2
  iintro HO
  iapply (load_wq I c) $$ [Hwq]; · iexact Hwq
  iintro Hwq
  iapply (load_wo I c) $$ [Hwo]; · iexact Hwo
  iintro Hwo
  iapply (load_x I c) $$ [Hx]; · iexact Hx
  iintro Hx
  iapply (load_k I c) $$ [Hk']; · iexact Hk'
  iintro Hk'
  iapply (load_v I c) $$ [Hv]; · iexact Hv
  iintro Hv
  iapply (run_ret c)
  iapply Hk
  isplitl [HO]; · iexact HO
  isplitl [Hx]; · iexact Hx
  isplitl [Hwq]; · iexact Hwq
  isplitl [Hk']; · iexact Hk'
  isplitl [Hv]; · iexact Hv
  iexact Hwo

theorem part2 (v19 : FVec F S128x256 .bf16) (v24 : FVec F S128x64 .bf16) (v26 : FVec F S128x128 .f32) (v28 : FVec F S128x1 .f32) {Φ : (Σ' (v35 : FVec F S128x64 .bf16) (v51 : FVec F S128x64 .bf16), FVec F S128x64 .f32) → sProp 𝕄} :
    iprop(recs I K ∗ levAts L lv ∗ ins I c)
      ⊢ iprop(((ins I c) -∗ Φ (⟨k0_pay7 v24 v26 v28, k0_pay8 v19 (cut (I c).k (Rect.unit (s := S2x128x256) ![0, 0, 64] S1x128x64.size inb_S2x128x256_S1x128x64_0_0_64)) (cut (I c).v (Rect.unit (s := S2x128x256) ![0, 0, 64] S1x128x64.size inb_S2x128x256_S1x128x64_0_0_64)), k0_pay9 v19 (cut (I c).k (Rect.unit (s := S2x128x256) ![0, 0, 128] S1x128x64.size inb_S2x128x256_S1x128x64_0_0_128)) (cut (I c).v (Rect.unit (s := S2x128x256) ![0, 0, 128] S1x128x64.size inb_S2x128x256_S1x128x64_0_0_128))⟩))
        -∗ Run c (k0_part2 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v19 v24 v26 v28) Φ) := by
  rw [k0_part2_eq_skeleton]; unfold k0_part2_skel
  simp only [semSignalWord, semWaitWord, Prog.lift, Prog.bind_op, Prog.bind_ret, Prog.pure_eq_ret]
  iintro ⟨#HR, #HL, Hin⟩ Hk
  unfold ins
  icases Hin with ⟨Hx, Hwq, Hk', Hv, Hwo⟩
  iapply (load_k I c) $$ [Hk']; · iexact Hk'
  iintro Hk'
  iapply (load_v I c) $$ [Hv]; · iexact Hv
  iintro Hv
  iapply (load_k I c) $$ [Hk']; · iexact Hk'
  iintro Hk'
  iapply (load_v I c) $$ [Hv]; · iexact Hv
  iintro Hv
  iapply (run_ret c)
  iapply Hk
  isplitl [Hx]; · iexact Hx
  isplitl [Hwq]; · iexact Hwq
  isplitl [Hk']; · iexact Hk'
  isplitl [Hv]; · iexact Hv
  iexact Hwo

theorem part3 (v3 : BitVec 32) (v13 : FVec F S256x512 .bf16) (v19 : FVec F S128x256 .bf16) (v35 : FVec F S128x64 .bf16) (v51 : FVec F S128x64 .bf16) (v66 : FVec F S128x64 .f32) {Φ : (FVec F S128x256 .bf16) → sProp 𝕄}
    (e1 : (k0_pay11 v13 v19 v35 v51 v66 (cut (I c).k (Rect.unit (s := S2x128x256) ![0, 0, 192] S1x128x64.size inb_S2x128x256_S1x128x64_0_0_192)) (cut (I c).v (Rect.unit (s := S2x128x256) ![0, 0, 192] S1x128x64.size inb_S2x128x256_S1x128x64_0_0_192))) = val I c 0) :
    iprop(recs I K ∗ levAts L lv ∗ cred (tallyAt (barCell c) () 2) ∗ atPos ER (barCell c) 0 ∅ 0 ∗ St I c 0 0 0 0 0 0 ∗ ins I c)
      ⊢ iprop(((atPos ER (barCell c) (0 + 1) ∅ 0 ∗ St I c 16 1 0 0 0 0 ∗ ins I c) -∗ Φ ((k0_pay10 v19 v35 v51 v66 (cut (I c).k (Rect.unit (s := S2x128x256) ![0, 0, 192] S1x128x64.size inb_S2x128x256_S1x128x64_0_0_192)) (cut (I c).v (Rect.unit (s := S2x128x256) ![0, 0, 192] S1x128x64.size inb_S2x128x256_S1x128x64_0_0_192)))))
        -∗ Run c (k0_part3 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v3 (SemArray.scalar (sig.barrier 0 rfl)) v13 v19 v35 v51 v66) Φ) := by
  rw [k0_part3_eq_skeleton]; unfold k0_part3_skel
  simp only [semSignalWord, semWaitWord, Prog.lift, Prog.bind_op, Prog.bind_ret, Prog.pure_eq_ret]
  iintro ⟨#HR, #HL, Hbc, Hba, H, Hin⟩ Hk
  unfold ins
  icases Hin with ⟨Hx, Hwq, Hk', Hv, Hwo⟩
  iapply (load_k I c) $$ [Hk']; · iexact Hk'
  iintro Hk'
  iapply (load_v I c) $$ [Hv]; · iexact Hv
  iintro Hv
  iapply (step_dead (h := 0) (s := 0) (n := 0) (a := 0) (w := 0) (o := 0) I c 0 0 0 rfl rfl) $$ [H]; · iexact H
  iintro %v88 H
  iapply (step_store (h := 0) (s := 0) (n := 0) (a := 0) (w := 0) (o := 0) I c 0 0 0 rfl rfl (by decide) e1 rfl) $$ [H]; · iexact H
  iintro H
  iapply (step_barrier I K c (by decide)) $$ [H Hbc Hba]
  · isplitr; · iexact HR
    isplitr; · iexact HL
    isplitl [Hbc]; · iexact Hbc
    isplitl [Hba]; · iexact Hba
    iexact H
  iintro ⟨Hba, H⟩
  iapply (run_ret c)
  iapply Hk
  isplitl [Hba]; · iexact Hba
  isplitl [H]; · iexact H
  isplitl [Hx]; · iexact Hx
  isplitl [Hwq]; · iexact Hwq
  isplitl [Hk']; · iexact Hk'
  isplitl [Hv]; · iexact Hv
  iexact Hwo

theorem part4 (v4 : BitVec 32) (v13 : FVec F S256x512 .bf16) (v84 : FVec F S128x256 .bf16) {Φ : (PUnit) → sProp 𝕄}
    (e1 : (k0_pay12 v13 v84) = val I c 1)
    (e2 : (k0_pay13 v13 v84) = val I c 2) :
    iprop(recs I K ∗ levAts L lv ∗ St I c 16 1 0 0 0 0)
      ⊢ iprop(((St I c 16 3 2 0 0 0) -∗ Φ (⟨⟩))
        -∗ Run c (k0_part4 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v4 v13 v84) Φ) := by
  rw [k0_part4_eq_skeleton]; unfold k0_part4_skel
  simp only [semSignalWord, semWaitWord, Prog.lift, Prog.bind_op, Prog.bind_ret, Prog.pure_eq_ret]
  iintro ⟨#HR, #HL, H⟩ Hk
  iapply (step_send (h := 16) (s := 1) (n := 0) (a := 0) (w := 0) (o := 0) I K c 0 0 0 rfl rfl (by decide) rfl (by decide) (dev3_eq c) (snd_sem 0 0 0 rfl _) (rcv_sem 0 0 0 rfl _)) $$ [H]
  · isplitr; · iexact HR
    iexact H
  iintro H
  iapply (step_dead (h := 16) (s := 1) (n := 1) (a := 0) (w := 0) (o := 0) I c 0 1 1 rfl rfl) $$ [H]; · iexact H
  iintro %v104 H
  iapply (step_store (h := 16) (s := 1) (n := 1) (a := 0) (w := 0) (o := 0) I c 0 1 1 rfl rfl (by decide) e1 rfl) $$ [H]; · iexact H
  iintro H
  iapply (step_send (h := 16) (s := 2) (n := 1) (a := 0) (w := 0) (o := 0) I K c 0 1 1 rfl rfl (by decide) rfl (by decide) (dev4_eq c) (snd_sem 0 1 1 rfl _) (rcv_sem 0 1 1 rfl _)) $$ [H]
  · isplitr; · iexact HR
    iexact H
  iintro H
  iapply (step_dead (h := 16) (s := 2) (n := 2) (a := 0) (w := 0) (o := 0) I c 0 2 2 rfl rfl) $$ [H]; · iexact H
  iintro %v120 H
  iapply (step_store (h := 16) (s := 2) (n := 2) (a := 0) (w := 0) (o := 0) I c 0 2 2 rfl rfl (by decide) e2 rfl) $$ [H]; · iexact H
  iintro H
  iapply (run_ret c)
  iapply Hk
  iexact H

theorem part5 (v3 : BitVec 32) (v4 : BitVec 32) (v13 : FVec F S256x512 .bf16) (v84 : FVec F S128x256 .bf16) {Φ : (PUnit) → sProp 𝕄}
    (e1 : (k0_pay14 v13 v84) = val I c 3) :
    iprop(recs I K ∗ levAts L lv ∗ St I c 16 3 2 0 0 0)
      ⊢ iprop(((St I c 16 4 4 0 0 0) -∗ Φ (⟨⟩))
        -∗ Run c (k0_part5 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3 v4 v13 v84) Φ) := by
  rw [k0_part5_eq_skeleton]; unfold k0_part5_skel
  simp only [semSignalWord, semWaitWord, Prog.lift, Prog.bind_op, Prog.bind_ret, Prog.pure_eq_ret]
  iintro ⟨#HR, #HL, H⟩ Hk
  iapply (step_send (h := 16) (s := 3) (n := 2) (a := 0) (w := 0) (o := 0) I K c 0 2 2 rfl rfl (by decide) rfl (by decide) (dev5_eq c) (snd_sem 0 2 2 rfl _) (rcv_sem 0 2 2 rfl _)) $$ [H]
  · isplitr; · iexact HR
    iexact H
  iintro H
  iapply (step_dead (h := 16) (s := 3) (n := 3) (a := 0) (w := 0) (o := 0) I c 0 3 3 rfl rfl) $$ [H]; · iexact H
  iintro %v136 H
  iapply (step_store (h := 16) (s := 3) (n := 3) (a := 0) (w := 0) (o := 0) I c 0 3 3 rfl rfl (by decide) e1 rfl) $$ [H]; · iexact H
  iintro H
  iapply (step_send (h := 16) (s := 4) (n := 3) (a := 0) (w := 0) (o := 0) I K c 0 3 3 rfl rfl (by decide) rfl (by decide) (dev6_eq c) (snd_sem 0 3 3 rfl _) (rcv_sem 0 3 3 rfl _)) $$ [H]
  · isplitr; · iexact HR
    iexact H
  iintro H
  iapply (run_ret c)
  iapply Hk
  iexact H

theorem part6 (v11 : FVec F S512x256 .bf16) {Φ : (Σ' (v154 : FVec F S128x256 .bf16) (v170 : FVec F S128x64 .bf16) (v183 : FVec F S128x64 .f32), FVec F S128x64 .f32) → sProp 𝕄} :
    iprop(recs I K ∗ levAts L lv ∗ ins I c)
      ⊢ iprop(((ins I c) -∗ Φ (⟨k0_pay15 v11 (cut (I c).x (Rect.unit (s := S2x128x512) ![1, 0, 0] S1x128x512.size inb_S2x128x512_S1x128x512_1_0_0)), k0_pay16 v11 (cut (I c).x (Rect.unit (s := S2x128x512) ![1, 0, 0] S1x128x512.size inb_S2x128x512_S1x128x512_1_0_0)) (cut (I c).k (Rect.unit (s := S2x128x256) ![1, 0, 0] S1x128x64.size inb_S2x128x256_S1x128x64_1_0_0)) (cut (I c).v (Rect.unit (s := S2x128x256) ![1, 0, 0] S1x128x64.size inb_S2x128x256_S1x128x64_1_0_0)), k0_pay18 v11 (cut (I c).x (Rect.unit (s := S2x128x512) ![1, 0, 0] S1x128x512.size inb_S2x128x512_S1x128x512_1_0_0)) (cut (I c).k (Rect.unit (s := S2x128x256) ![1, 0, 64] S1x128x64.size inb_S2x128x256_S1x128x64_1_0_64)) (cut (I c).v (Rect.unit (s := S2x128x256) ![1, 0, 64] S1x128x64.size inb_S2x128x256_S1x128x64_1_0_64)), k0_pay19 v11 (cut (I c).x (Rect.unit (s := S2x128x512) ![1, 0, 0] S1x128x512.size inb_S2x128x512_S1x128x512_1_0_0)) (cut (I c).k (Rect.unit (s := S2x128x256) ![1, 0, 64] S1x128x64.size inb_S2x128x256_S1x128x64_1_0_64))⟩))
        -∗ Run c (k0_part6 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v11) Φ) := by
  rw [k0_part6_eq_skeleton]; unfold k0_part6_skel
  simp only [semSignalWord, semWaitWord, Prog.lift, Prog.bind_op, Prog.bind_ret, Prog.pure_eq_ret]
  iintro ⟨#HR, #HL, Hin⟩ Hk
  unfold ins
  icases Hin with ⟨Hx, Hwq, Hk', Hv, Hwo⟩
  iapply (load_x I c) $$ [Hx]; · iexact Hx
  iintro Hx
  iapply (load_k I c) $$ [Hk']; · iexact Hk'
  iintro Hk'
  iapply (load_v I c) $$ [Hv]; · iexact Hv
  iintro Hv
  iapply (load_k I c) $$ [Hk']; · iexact Hk'
  iintro Hk'
  iapply (load_v I c) $$ [Hv]; · iexact Hv
  iintro Hv
  iapply (run_ret c)
  iapply Hk
  isplitl [Hx]; · iexact Hx
  isplitl [Hwq]; · iexact Hwq
  isplitl [Hk']; · iexact Hk'
  isplitl [Hv]; · iexact Hv
  iexact Hwo

theorem part7 (v13 : FVec F S256x512 .bf16) (v154 : FVec F S128x256 .bf16) (v170 : FVec F S128x64 .bf16) (v183 : FVec F S128x64 .f32) (v184 : FVec F S128x64 .f32) {Φ : (Σ' (v219 : FVec F S128x256 .bf16), FVec F S128x128 .bf16) → sProp 𝕄} :
    iprop(recs I K ∗ levAts L lv ∗ ins I c)
      ⊢ iprop(((ins I c) -∗ Φ (⟨k0_pay20 v154 v170 v183 v184 (cut (I c).k (Rect.unit (s := S2x128x256) ![1, 0, 128] S1x128x64.size inb_S2x128x256_S1x128x64_1_0_128)) (cut (I c).v (Rect.unit (s := S2x128x256) ![1, 0, 128] S1x128x64.size inb_S2x128x256_S1x128x64_1_0_128)) (cut (I c).k (Rect.unit (s := S2x128x256) ![1, 0, 192] S1x128x64.size inb_S2x128x256_S1x128x64_1_0_192)) (cut (I c).v (Rect.unit (s := S2x128x256) ![1, 0, 192] S1x128x64.size inb_S2x128x256_S1x128x64_1_0_192)), k0_pay21 v13 v154 v170 v183 v184 (cut (I c).k (Rect.unit (s := S2x128x256) ![1, 0, 128] S1x128x64.size inb_S2x128x256_S1x128x64_1_0_128)) (cut (I c).v (Rect.unit (s := S2x128x256) ![1, 0, 128] S1x128x64.size inb_S2x128x256_S1x128x64_1_0_128)) (cut (I c).k (Rect.unit (s := S2x128x256) ![1, 0, 192] S1x128x64.size inb_S2x128x256_S1x128x64_1_0_192)) (cut (I c).v (Rect.unit (s := S2x128x256) ![1, 0, 192] S1x128x64.size inb_S2x128x256_S1x128x64_1_0_192))⟩))
        -∗ Run c (k0_part7 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v13 v154 v170 v183 v184) Φ) := by
  rw [k0_part7_eq_skeleton]; unfold k0_part7_skel
  simp only [semSignalWord, semWaitWord, Prog.lift, Prog.bind_op, Prog.bind_ret, Prog.pure_eq_ret]
  iintro ⟨#HR, #HL, Hin⟩ Hk
  unfold ins
  icases Hin with ⟨Hx, Hwq, Hk', Hv, Hwo⟩
  iapply (load_k I c) $$ [Hk']; · iexact Hk'
  iintro Hk'
  iapply (load_v I c) $$ [Hv]; · iexact Hv
  iintro Hv
  iapply (load_k I c) $$ [Hk']; · iexact Hk'
  iintro Hk'
  iapply (load_v I c) $$ [Hv]; · iexact Hv
  iintro Hv
  iapply (run_ret c)
  iapply Hk
  isplitl [Hx]; · iexact Hx
  isplitl [Hwq]; · iexact Hwq
  isplitl [Hk']; · iexact Hk'
  isplitl [Hv]; · iexact Hv
  iexact Hwo

theorem part8 (v3 : BitVec 32) (v4 : BitVec 32) (v13 : FVec F S256x512 .bf16) (v219 : FVec F S128x256 .bf16) (v222 : FVec F S128x128 .bf16) {Φ : (PUnit) → sProp 𝕄}
    (e1 : (k0_pay22 v222) = val I c 4)
    (e2 : (k0_pay23 v13 v219) = val I c 5) :
    iprop(recs I K ∗ levAts L lv ∗ St I c 16 4 4 0 0 0)
      ⊢ iprop(((St I c 16 6 5 0 0 0) -∗ Φ (⟨⟩))
        -∗ Run c (k0_part8 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3 v4 v13 v219 v222) Φ) := by
  rw [k0_part8_eq_skeleton]; unfold k0_part8_skel
  simp only [semSignalWord, semWaitWord, Prog.lift, Prog.bind_op, Prog.bind_ret, Prog.pure_eq_ret]
  iintro ⟨#HR, #HL, H⟩ Hk
  iapply (step_dead (h := 16) (s := 4) (n := 4) (a := 0) (w := 0) (o := 0) I c 0 4 4 rfl rfl) $$ [H]; · iexact H
  iintro %v223 H
  iapply (step_store (h := 16) (s := 4) (n := 4) (a := 0) (w := 0) (o := 0) I c 0 4 4 rfl rfl (by decide) e1 rfl) $$ [H]; · iexact H
  iintro H
  iapply (step_send (h := 16) (s := 5) (n := 4) (a := 0) (w := 0) (o := 0) I K c 0 4 4 rfl rfl (by decide) rfl (by decide) (dev7_eq c) (snd_sem 0 4 4 rfl _) (rcv_sem 0 4 4 rfl _)) $$ [H]
  · isplitr; · iexact HR
    iexact H
  iintro H
  iapply (step_dead (h := 16) (s := 5) (n := 5) (a := 0) (w := 0) (o := 0) I c 0 5 5 rfl rfl) $$ [H]; · iexact H
  iintro %v239 H
  iapply (step_store (h := 16) (s := 5) (n := 5) (a := 0) (w := 0) (o := 0) I c 0 5 5 rfl rfl (by decide) e2 rfl) $$ [H]; · iexact H
  iintro H
  iapply (run_ret c)
  iapply Hk
  iexact H

theorem part9 (v3 : BitVec 32) (v13 : FVec F S256x512 .bf16) (v219 : FVec F S128x256 .bf16) {Φ : (PUnit) → sProp 𝕄}
    (e1 : (k0_pay24 v13 v219) = val I c 6)
    (e2 : (k0_pay25 v13 v219) = val I c 7) :
    iprop(recs I K ∗ levAts L lv ∗ St I c 16 6 5 0 0 0)
      ⊢ iprop(((St I c 16 8 7 0 0 0) -∗ Φ (⟨⟩))
        -∗ Run c (k0_part9 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3 v13 v219) Φ) := by
  rw [k0_part9_eq_skeleton]; unfold k0_part9_skel
  simp only [semSignalWord, semWaitWord, Prog.lift, Prog.bind_op, Prog.bind_ret, Prog.pure_eq_ret]
  iintro ⟨#HR, #HL, H⟩ Hk
  iapply (step_send (h := 16) (s := 6) (n := 5) (a := 0) (w := 0) (o := 0) I K c 0 5 5 rfl rfl (by decide) rfl (by decide) (dev8_eq c) (snd_sem 0 5 5 rfl _) (rcv_sem 0 5 5 rfl _)) $$ [H]
  · isplitr; · iexact HR
    iexact H
  iintro H
  iapply (step_dead (h := 16) (s := 6) (n := 6) (a := 0) (w := 0) (o := 0) I c 0 6 6 rfl rfl) $$ [H]; · iexact H
  iintro %v255 H
  iapply (step_store (h := 16) (s := 6) (n := 6) (a := 0) (w := 0) (o := 0) I c 0 6 6 rfl rfl (by decide) e1 rfl) $$ [H]; · iexact H
  iintro H
  iapply (step_send (h := 16) (s := 7) (n := 6) (a := 0) (w := 0) (o := 0) I K c 0 6 6 rfl rfl (by decide) rfl (by decide) (dev9_eq c) (snd_sem 0 6 6 rfl _) (rcv_sem 0 6 6 rfl _)) $$ [H]
  · isplitr; · iexact HR
    iexact H
  iintro H
  iapply (step_dead (h := 16) (s := 7) (n := 7) (a := 0) (w := 0) (o := 0) I c 0 7 7 rfl rfl) $$ [H]; · iexact H
  iintro %v271 H
  iapply (step_store (h := 16) (s := 7) (n := 7) (a := 0) (w := 0) (o := 0) I c 0 7 7 rfl rfl (by decide) e2 rfl) $$ [H]; · iexact H
  iintro H
  iapply (run_ret c)
  iapply Hk
  iexact H

end Cert.Attn

end
-- ==== Proof.Parts2.lean ====
/-
The second round of the exchange, part by part.
-/
module

public import proofs.«01_k».proof.Proof.Steps

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inputs F) (K : GSem nD τ sig → ℕ) (c : Dev nD) (i : grid0.Coords)

theorem part10 (v3 : BitVec 32) (v4 : BitVec 32) {Φ : (FVec F S128x128 .bf16) → sProp 𝕄} :
    iprop(recs I K ∗ levAts L lv ∗ St I c 16 8 7 0 0 0)
      ⊢ iprop(((St I c 16 8 8 1 0 0) -∗ Φ ((k0_pay26 (val I c 0) (val I (ptn c 0) 0))))
        -∗ Run c (k0_part10 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3 v4) Φ) := by
  rw [k0_part10_eq_skeleton]; unfold k0_part10_skel
  simp only [semSignalWord, semWaitWord, Prog.lift, Prog.bind_op, Prog.bind_ret, Prog.pure_eq_ret]
  iintro ⟨#HR, #HL, H⟩ Hk
  iapply (step_send (h := 16) (s := 8) (n := 7) (a := 0) (w := 0) (o := 0) I K c 0 7 7 rfl rfl (by decide) rfl (by decide) (dev10_eq c) (snd_sem 0 7 7 rfl _) (rcv_sem 0 7 7 rfl _)) $$ [H]
  · isplitr; · iexact HR
    iexact H
  iintro H
  iapply (step_recv (h := 16) (s := 8) (n := 8) (a := 0) (w := 0) (o := 0) I K c 0 0 0 rfl (by decide) (rcv_sem 0 0 0 rfl _)) $$ [H]
  · isplitr; · iexact HR
    isplitr; · iexact HL
    iexact H
  iintro H
  iapply (step_own (h := 16) (s := 8) (n := 8) (a := 1) (w := 0) (o := 0) I c 0 0 0 rfl (by decide)) $$ [H]; · iexact H
  iintro H
  iapply (step_theirs (h := 16) (s := 8) (n := 8) (a := 1) (w := 0) (o := 0) I c 0 0 0 rfl (by decide)) $$ [H]; · iexact H
  iintro H
  iapply (run_ret c)
  iapply Hk
  iexact H

theorem part11 (v4 : BitVec 32) (v296 : FVec F S128x128 .bf16) {Φ : (Vec F S1x1x128x128 .bf16) → sProp 𝕄}
    (e1 : (k0_pay27 v296) = val I c 8) :
    iprop(recs I K ∗ levAts L lv ∗ St I c 16 8 8 1 0 0)
      ⊢ iprop(((St I c 16 9 9 2 0 0) -∗ Φ ((val I c 1)))
        -∗ Run c (k0_part11 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v4 v296) Φ) := by
  rw [k0_part11_eq_skeleton]; unfold k0_part11_skel
  simp only [semSignalWord, semWaitWord, Prog.lift, Prog.bind_op, Prog.bind_ret, Prog.pure_eq_ret]
  iintro ⟨#HR, #HL, H⟩ Hk
  iapply (step_dead (h := 16) (s := 8) (n := 8) (a := 1) (w := 0) (o := 0) I c 1 0 8 rfl rfl) $$ [H]; · iexact H
  iintro %v297 H
  iapply (step_store (h := 16) (s := 8) (n := 8) (a := 1) (w := 0) (o := 0) I c 1 0 8 rfl rfl (by decide) e1 rfl) $$ [H]; · iexact H
  iintro H
  iapply (step_send (h := 16) (s := 9) (n := 8) (a := 1) (w := 0) (o := 0) I K c 1 0 8 rfl rfl (by decide) rfl (by decide) (dev11_eq c) (snd_sem 1 0 8 rfl _) (rcv_sem 1 0 8 rfl _)) $$ [H]
  · isplitr; · iexact HR
    iexact H
  iintro H
  iapply (step_recv (h := 16) (s := 9) (n := 9) (a := 1) (w := 0) (o := 0) I K c 0 1 1 rfl (by decide) (rcv_sem 0 1 1 rfl _)) $$ [H]
  · isplitr; · iexact HR
    isplitr; · iexact HL
    iexact H
  iintro H
  iapply (step_own (h := 16) (s := 9) (n := 9) (a := 2) (w := 0) (o := 0) I c 0 1 1 rfl (by decide)) $$ [H]; · iexact H
  iintro H
  iapply (run_ret c)
  iapply Hk
  iexact H

theorem part12 (v3 : BitVec 32) (v318 : Vec F S1x1x128x128 .bf16) {Φ : (PUnit) → sProp 𝕄}
    (e1 : (k0_pay28 v318 (val I (ptn c 1) 1)) = val I c 9) :
    iprop(recs I K ∗ levAts L lv ∗ St I c 16 9 9 2 0 0)
      ⊢ iprop(((St I c 16 10 10 2 0 0) -∗ Φ (⟨⟩))
        -∗ Run c (k0_part12 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3 v318) Φ) := by
  rw [k0_part12_eq_skeleton]; unfold k0_part12_skel
  simp only [semSignalWord, semWaitWord, Prog.lift, Prog.bind_op, Prog.bind_ret, Prog.pure_eq_ret]
  iintro ⟨#HR, #HL, H⟩ Hk
  iapply (step_theirs (h := 16) (s := 9) (n := 9) (a := 2) (w := 0) (o := 0) I c 0 1 1 rfl (by decide)) $$ [H]; · iexact H
  iintro H
  iapply (step_dead (h := 16) (s := 9) (n := 9) (a := 2) (w := 0) (o := 0) I c 1 1 9 rfl rfl) $$ [H]; · iexact H
  iintro %v323 H
  iapply (step_store (h := 16) (s := 9) (n := 9) (a := 2) (w := 0) (o := 0) I c 1 1 9 rfl rfl (by decide) e1 rfl) $$ [H]; · iexact H
  iintro H
  iapply (step_send (h := 16) (s := 10) (n := 9) (a := 2) (w := 0) (o := 0) I K c 1 1 9 rfl rfl (by decide) rfl (by decide) (dev12_eq c) (snd_sem 1 1 9 rfl _) (rcv_sem 1 1 9 rfl _)) $$ [H]
  · isplitr; · iexact HR
    iexact H
  iintro H
  iapply (run_ret c)
  iapply Hk
  iexact H

theorem part13 (v4 : BitVec 32) {Φ : (BitVec 32) → sProp 𝕄}
    (e1 : (k0_pay29 (val I c 2) (val I (ptn c 2) 2)) = val I c 10) :
    iprop(recs I K ∗ levAts L lv ∗ St I c 16 10 10 2 0 0)
      ⊢ iprop(((St I c 16 11 11 3 0 0) -∗ Φ (Scalar.muli v4 1#32))
        -∗ Run c (k0_part13 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v4) Φ) := by
  rw [k0_part13_eq_skeleton]; unfold k0_part13_skel
  simp only [semSignalWord, semWaitWord, Prog.lift, Prog.bind_op, Prog.bind_ret, Prog.pure_eq_ret]
  iintro ⟨#HR, #HL, H⟩ Hk
  iapply (step_recv (h := 16) (s := 10) (n := 10) (a := 2) (w := 0) (o := 0) I K c 0 2 2 rfl (by decide) (rcv_sem 0 2 2 rfl _)) $$ [H]
  · isplitr; · iexact HR
    isplitr; · iexact HL
    iexact H
  iintro H
  iapply (step_own (h := 16) (s := 10) (n := 10) (a := 3) (w := 0) (o := 0) I c 0 2 2 rfl (by decide)) $$ [H]; · iexact H
  iintro H
  iapply (step_theirs (h := 16) (s := 10) (n := 10) (a := 3) (w := 0) (o := 0) I c 0 2 2 rfl (by decide)) $$ [H]; · iexact H
  iintro H
  iapply (step_dead (h := 16) (s := 10) (n := 10) (a := 3) (w := 0) (o := 0) I c 1 2 10 rfl rfl) $$ [H]; · iexact H
  iintro %v349 H
  iapply (step_store (h := 16) (s := 10) (n := 10) (a := 3) (w := 0) (o := 0) I c 1 2 10 rfl rfl (by decide) e1 rfl) $$ [H]; · iexact H
  iintro H
  iapply (step_send (h := 16) (s := 11) (n := 10) (a := 3) (w := 0) (o := 0) I K c 1 2 10 rfl rfl (by decide) rfl (by decide) (dev13_eq c) (snd_sem 1 2 10 rfl _) (rcv_sem 1 2 10 rfl _)) $$ [H]
  · isplitr; · iexact HR
    iexact H
  iintro H
  iapply (run_ret c)
  iapply Hk
  iexact H

theorem part14 (v3 : BitVec 32) (v362 : BitVec 32) {Φ : (PUnit) → sProp 𝕄}
    (e1 : (k0_pay30 (val I c 3) (val I (ptn c 3) 3)) = val I c 11) :
    iprop(recs I K ∗ levAts L lv ∗ St I c 16 11 11 3 0 0)
      ⊢ iprop(((St I c 16 12 12 4 0 0) -∗ Φ (⟨⟩))
        -∗ Run c (k0_part14 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3 v362) Φ) := by
  rw [k0_part14_eq_skeleton]; unfold k0_part14_skel
  simp only [semSignalWord, semWaitWord, Prog.lift, Prog.bind_op, Prog.bind_ret, Prog.pure_eq_ret]
  iintro ⟨#HR, #HL, H⟩ Hk
  iapply (step_recv (h := 16) (s := 11) (n := 11) (a := 3) (w := 0) (o := 0) I K c 0 3 3 rfl (by decide) (rcv_sem 0 3 3 rfl _)) $$ [H]
  · isplitr; · iexact HR
    isplitr; · iexact HL
    iexact H
  iintro H
  iapply (step_own (h := 16) (s := 11) (n := 11) (a := 4) (w := 0) (o := 0) I c 0 3 3 rfl (by decide)) $$ [H]; · iexact H
  iintro H
  iapply (step_theirs (h := 16) (s := 11) (n := 11) (a := 4) (w := 0) (o := 0) I c 0 3 3 rfl (by decide)) $$ [H]; · iexact H
  iintro H
  iapply (step_dead (h := 16) (s := 11) (n := 11) (a := 4) (w := 0) (o := 0) I c 1 3 11 rfl rfl) $$ [H]; · iexact H
  iintro %v375 H
  iapply (step_store (h := 16) (s := 11) (n := 11) (a := 4) (w := 0) (o := 0) I c 1 3 11 rfl rfl (by decide) e1 rfl) $$ [H]; · iexact H
  iintro H
  iapply (step_send (h := 16) (s := 12) (n := 11) (a := 4) (w := 0) (o := 0) I K c 1 3 11 rfl rfl (by decide) rfl (by decide) (dev14_eq c) (snd_sem 1 3 11 rfl _) (rcv_sem 1 3 11 rfl _)) $$ [H]
  · isplitr; · iexact HR
    iexact H
  iintro H
  iapply (run_ret c)
  iapply Hk
  iexact H

theorem part15 (v3 : BitVec 32) (v4 : BitVec 32) {Φ : (PUnit) → sProp 𝕄}
    (e1 : (k0_pay31 (val I c 4) (val I (ptn c 4) 4)) = val I c 12) :
    iprop(recs I K ∗ levAts L lv ∗ St I c 16 12 12 4 0 0)
      ⊢ iprop(((St I c 16 13 12 5 0 0) -∗ Φ (⟨⟩))
        -∗ Run c (k0_part15 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v3 v4) Φ) := by
  rw [k0_part15_eq_skeleton]; unfold k0_part15_skel
  simp only [semSignalWord, semWaitWord, Prog.lift, Prog.bind_op, Prog.bind_ret, Prog.pure_eq_ret]
  iintro ⟨#HR, #HL, H⟩ Hk
  iapply (step_recv (h := 16) (s := 12) (n := 12) (a := 4) (w := 0) (o := 0) I K c 0 4 4 rfl (by decide) (rcv_sem 0 4 4 rfl _)) $$ [H]
  · isplitr; · iexact HR
    isplitr; · iexact HL
    iexact H
  iintro H
  iapply (step_own (h := 16) (s := 12) (n := 12) (a := 5) (w := 0) (o := 0) I c 0 4 4 rfl (by decide)) $$ [H]; · iexact H
  iintro H
  iapply (step_theirs (h := 16) (s := 12) (n := 12) (a := 5) (w := 0) (o := 0) I c 0 4 4 rfl (by decide)) $$ [H]; · iexact H
  iintro H
  iapply (step_dead (h := 16) (s := 12) (n := 12) (a := 5) (w := 0) (o := 0) I c 1 4 12 rfl rfl) $$ [H]; · iexact H
  iintro %v401 H
  iapply (step_store (h := 16) (s := 12) (n := 12) (a := 5) (w := 0) (o := 0) I c 1 4 12 rfl rfl (by decide) e1 rfl) $$ [H]; · iexact H
  iintro H
  iapply (run_ret c)
  iapply Hk
  iexact H

theorem part16 (v4 : BitVec 32) {Φ : (PUnit) → sProp 𝕄}
    (e1 : (k0_pay32 (val I c 5) (val I (ptn c 5) 5)) = val I c 13) :
    iprop(recs I K ∗ levAts L lv ∗ St I c 16 13 12 5 0 0)
      ⊢ iprop(((St I c 16 14 13 6 0 0) -∗ Φ (⟨⟩))
        -∗ Run c (k0_part16 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v4) Φ) := by
  rw [k0_part16_eq_skeleton]; unfold k0_part16_skel
  simp only [semSignalWord, semWaitWord, Prog.lift, Prog.bind_op, Prog.bind_ret, Prog.pure_eq_ret]
  iintro ⟨#HR, #HL, H⟩ Hk
  iapply (step_send (h := 16) (s := 13) (n := 12) (a := 5) (w := 0) (o := 0) I K c 1 4 12 rfl rfl (by decide) rfl (by decide) (dev15_eq c) (snd_sem 1 4 12 rfl _) (rcv_sem 1 4 12 rfl _)) $$ [H]
  · isplitr; · iexact HR
    iexact H
  iintro H
  iapply (step_recv (h := 16) (s := 13) (n := 13) (a := 5) (w := 0) (o := 0) I K c 0 5 5 rfl (by decide) (rcv_sem 0 5 5 rfl _)) $$ [H]
  · isplitr; · iexact HR
    isplitr; · iexact HL
    iexact H
  iintro H
  iapply (step_own (h := 16) (s := 13) (n := 13) (a := 6) (w := 0) (o := 0) I c 0 5 5 rfl (by decide)) $$ [H]; · iexact H
  iintro H
  iapply (step_theirs (h := 16) (s := 13) (n := 13) (a := 6) (w := 0) (o := 0) I c 0 5 5 rfl (by decide)) $$ [H]; · iexact H
  iintro H
  iapply (step_dead (h := 16) (s := 13) (n := 13) (a := 6) (w := 0) (o := 0) I c 1 5 13 rfl rfl) $$ [H]; · iexact H
  iintro %v427 H
  iapply (step_store (h := 16) (s := 13) (n := 13) (a := 6) (w := 0) (o := 0) I c 1 5 13 rfl rfl (by decide) e1 rfl) $$ [H]; · iexact H
  iintro H
  iapply (run_ret c)
  iapply Hk
  iexact H

theorem part17 (v3 : BitVec 32) {Φ : (FVec F S1x1x128x128 .bf16) → sProp 𝕄} :
    iprop(recs I K ∗ levAts L lv ∗ St I c 16 14 13 6 0 0)
      ⊢ iprop(((St I c 16 14 14 7 0 0) -∗ Φ ((k0_pay33 (val I c 6) (val I (ptn c 6) 6))))
        -∗ Run c (k0_part17 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3) Φ) := by
  rw [k0_part17_eq_skeleton]; unfold k0_part17_skel
  simp only [semSignalWord, semWaitWord, Prog.lift, Prog.bind_op, Prog.bind_ret, Prog.pure_eq_ret]
  iintro ⟨#HR, #HL, H⟩ Hk
  iapply (step_send (h := 16) (s := 14) (n := 13) (a := 6) (w := 0) (o := 0) I K c 1 5 13 rfl rfl (by decide) rfl (by decide) (dev16_eq c) (snd_sem 1 5 13 rfl _) (rcv_sem 1 5 13 rfl _)) $$ [H]
  · isplitr; · iexact HR
    iexact H
  iintro H
  iapply (step_recv (h := 16) (s := 14) (n := 14) (a := 6) (w := 0) (o := 0) I K c 0 6 6 rfl (by decide) (rcv_sem 0 6 6 rfl _)) $$ [H]
  · isplitr; · iexact HR
    isplitr; · iexact HL
    iexact H
  iintro H
  iapply (step_own (h := 16) (s := 14) (n := 14) (a := 7) (w := 0) (o := 0) I c 0 6 6 rfl (by decide)) $$ [H]; · iexact H
  iintro H
  iapply (step_theirs (h := 16) (s := 14) (n := 14) (a := 7) (w := 0) (o := 0) I c 0 6 6 rfl (by decide)) $$ [H]; · iexact H
  iintro H
  iapply (step_dead (h := 16) (s := 14) (n := 14) (a := 7) (w := 0) (o := 0) I c 1 6 14 rfl rfl) $$ [H]; · iexact H
  iintro %v453 H
  iapply (run_ret c)
  iapply Hk
  iexact H

theorem part18 (v4 : BitVec 32) (v455 : FVec F S1x1x128x128 .bf16) {Φ : (Σ' (v475 : FVec F S128x128 .bf16), Vec F S1x1x128x128 .bf16) → sProp 𝕄}
    (e1 : v455 = val I c 14) :
    iprop(recs I K ∗ levAts L lv ∗ St I c 16 14 14 7 0 0)
      ⊢ iprop(((St I c 16 15 15 8 0 0) -∗ Φ (⟨k0_pay34 (val I c 7), (val I (ptn c 7) 7)⟩))
        -∗ Run c (k0_part18 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v4 v455) Φ) := by
  rw [k0_part18_eq_skeleton]; unfold k0_part18_skel
  simp only [semSignalWord, semWaitWord, Prog.lift, Prog.bind_op, Prog.bind_ret, Prog.pure_eq_ret]
  iintro ⟨#HR, #HL, H⟩ Hk
  iapply (step_store (h := 16) (s := 14) (n := 14) (a := 7) (w := 0) (o := 0) I c 1 6 14 rfl rfl (by decide) e1 rfl) $$ [H]; · iexact H
  iintro H
  iapply (step_send (h := 16) (s := 15) (n := 14) (a := 7) (w := 0) (o := 0) I K c 1 6 14 rfl rfl (by decide) rfl (by decide) (dev17_eq c) (snd_sem 1 6 14 rfl _) (rcv_sem 1 6 14 rfl _)) $$ [H]
  · isplitr; · iexact HR
    iexact H
  iintro H
  iapply (step_recv (h := 16) (s := 15) (n := 15) (a := 7) (w := 0) (o := 0) I K c 0 7 7 rfl (by decide) (rcv_sem 0 7 7 rfl _)) $$ [H]
  · isplitr; · iexact HR
    isplitr; · iexact HL
    iexact H
  iintro H
  iapply (step_own (h := 16) (s := 15) (n := 15) (a := 8) (w := 0) (o := 0) I c 0 7 7 rfl (by decide)) $$ [H]; · iexact H
  iintro H
  iapply (step_theirs (h := 16) (s := 15) (n := 15) (a := 8) (w := 0) (o := 0) I c 0 7 7 rfl (by decide)) $$ [H]; · iexact H
  iintro H
  iapply (run_ret c)
  iapply Hk
  iexact H

theorem part19 (v3 : BitVec 32) (v4 : BitVec 32) (v475 : FVec F S128x128 .bf16) (v476 : Vec F S1x1x128x128 .bf16) {Φ : (PUnit) → sProp 𝕄}
    (e1 : (k0_pay35 v475 v476) = val I c 15) :
    iprop(recs I K ∗ levAts L lv ∗ St I c 16 15 15 8 0 0)
      ⊢ iprop(((St I c 16 16 16 9 0 0) -∗ Φ (⟨⟩))
        -∗ Run c (k0_part19 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 c v3 v4 v475 v476) Φ) := by
  rw [k0_part19_eq_skeleton]; unfold k0_part19_skel
  simp only [semSignalWord, semWaitWord, Prog.lift, Prog.bind_op, Prog.bind_ret, Prog.pure_eq_ret]
  iintro ⟨#HR, #HL, H⟩ Hk
  iapply (step_dead (h := 16) (s := 15) (n := 15) (a := 8) (w := 0) (o := 0) I c 1 7 15 rfl rfl) $$ [H]; · iexact H
  iintro %v479 H
  iapply (step_store (h := 16) (s := 15) (n := 15) (a := 8) (w := 0) (o := 0) I c 1 7 15 rfl rfl (by decide) e1 rfl) $$ [H]; · iexact H
  iintro H
  iapply (step_send (h := 16) (s := 16) (n := 15) (a := 8) (w := 0) (o := 0) I K c 1 7 15 rfl rfl (by decide) rfl (by decide) (dev18_eq c) (snd_sem 1 7 15 rfl _) (rcv_sem 1 7 15 rfl _)) $$ [H]
  · isplitr; · iexact HR
    iexact H
  iintro H
  iapply (step_recv (h := 16) (s := 16) (n := 16) (a := 8) (w := 0) (o := 0) I K c 1 0 8 rfl (by decide) (rcv_sem 1 0 8 rfl _)) $$ [H]
  · isplitr; · iexact HR
    isplitr; · iexact HL
    iexact H
  iintro H
  iapply (run_ret c)
  iapply Hk
  iexact H

end Cert.Attn

end
-- ==== Proof.Parts3.lean ====
/-
The stores of the result and the last waits, part by part.
-/
module

public import proofs.«01_k».proof.Proof.Steps

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inputs F) (K : GSem nD τ sig → ℕ) (c : Dev nD) (i : grid0.Coords)

theorem part20 (v3 : BitVec 32) {Φ : (FVec F S1x128x128 .bf16) → sProp 𝕄}
    (e1 : (k0_pay36 (val I c 8) (val I (ptn c 8) 8)) = res I c 0) :
    iprop(recs I K ∗ levAts L lv ∗ St I c 16 16 16 9 0 0)
      ⊢ iprop(((St I c 16 16 16 10 0 1) -∗ Φ ((k0_pay37 (val I c 9) (val I (ptn c 9) 9))))
        -∗ Run c (k0_part20 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v3) Φ) := by
  rw [k0_part20_eq_skeleton]; unfold k0_part20_skel
  simp only [semSignalWord, semWaitWord, Prog.lift, Prog.bind_op, Prog.bind_ret, Prog.pure_eq_ret]
  iintro ⟨#HR, #HL, H⟩ Hk
  iapply (step_own (h := 16) (s := 16) (n := 16) (a := 9) (w := 0) (o := 0) I c 1 0 8 rfl (by decide)) $$ [H]; · iexact H
  iintro H
  iapply (step_theirs (h := 16) (s := 16) (n := 16) (a := 9) (w := 0) (o := 0) I c 1 0 8 rfl (by decide)) $$ [H]; · iexact H
  iintro H
  iapply (step_odead (h := 16) (s := 16) (n := 16) (a := 9) (w := 0) (o := 0) I c 0 0) $$ [H]; · iexact H
  iintro %v505 H
  iapply (step_out (h := 16) (s := 16) (n := 16) (a := 9) (w := 0) (o := 0) I c 0 0 0 rfl rfl rfl e1 rfl) $$ [H]; · iexact H
  iintro H
  iapply (step_recv (h := 16) (s := 16) (n := 16) (a := 9) (w := 0) (o := 1) I K c 1 1 9 rfl (by decide) (rcv_sem 1 1 9 rfl _)) $$ [H]
  · isplitr; · iexact HR
    isplitr; · iexact HL
    iexact H
  iintro H
  iapply (step_own (h := 16) (s := 16) (n := 16) (a := 10) (w := 0) (o := 1) I c 1 1 9 rfl (by decide)) $$ [H]; · iexact H
  iintro H
  iapply (step_theirs (h := 16) (s := 16) (n := 16) (a := 10) (w := 0) (o := 1) I c 1 1 9 rfl (by decide)) $$ [H]; · iexact H
  iintro H
  iapply (step_odead (h := 16) (s := 16) (n := 16) (a := 10) (w := 0) (o := 1) I c 0 128) $$ [H]; · iexact H
  iintro %v521 H
  iapply (run_ret c)
  iapply Hk
  iexact H

theorem part21 (v3 : BitVec 32) (v4 : BitVec 32) (v523 : FVec F S1x128x128 .bf16) {Φ : (PUnit) → sProp 𝕄}
    (e1 : v523 = res I c 1)
    (e2 : (k0_pay38 (val I c 10) (val I (ptn c 10) 10)) = res I c 2) :
    iprop(recs I K ∗ levAts L lv ∗ St I c 16 16 16 10 0 1)
      ⊢ iprop(((St I c 16 16 16 11 0 3) -∗ Φ (⟨⟩))
        -∗ Run c (k0_part21 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v3 v4 v523) Φ) := by
  rw [k0_part21_eq_skeleton]; unfold k0_part21_skel
  simp only [semSignalWord, semWaitWord, Prog.lift, Prog.bind_op, Prog.bind_ret, Prog.pure_eq_ret]
  iintro ⟨#HR, #HL, H⟩ Hk
  iapply (step_out (h := 16) (s := 16) (n := 16) (a := 10) (w := 0) (o := 1) I c 0 128 1 rfl rfl rfl e1 rfl) $$ [H]; · iexact H
  iintro H
  iapply (step_recv (h := 16) (s := 16) (n := 16) (a := 10) (w := 0) (o := 2) I K c 1 2 10 rfl (by decide) (rcv_sem 1 2 10 rfl _)) $$ [H]
  · isplitr; · iexact HR
    isplitr; · iexact HL
    iexact H
  iintro H
  iapply (step_own (h := 16) (s := 16) (n := 16) (a := 11) (w := 0) (o := 2) I c 1 2 10 rfl (by decide)) $$ [H]; · iexact H
  iintro H
  iapply (step_theirs (h := 16) (s := 16) (n := 16) (a := 11) (w := 0) (o := 2) I c 1 2 10 rfl (by decide)) $$ [H]; · iexact H
  iintro H
  iapply (step_odead (h := 16) (s := 16) (n := 16) (a := 11) (w := 0) (o := 2) I c 0 256) $$ [H]; · iexact H
  iintro %v537 H
  iapply (step_out (h := 16) (s := 16) (n := 16) (a := 11) (w := 0) (o := 2) I c 0 256 2 rfl rfl rfl e2 rfl) $$ [H]; · iexact H
  iintro H
  iapply (run_ret c)
  iapply Hk
  iexact H

theorem part22 (v4 : BitVec 32) {Φ : (FVec F S128x128 .bf16) → sProp 𝕄}
    (e1 : (k0_pay39 (val I c 11) (val I (ptn c 11) 11)) = res I c 3) :
    iprop(recs I K ∗ levAts L lv ∗ St I c 16 16 16 11 0 3)
      ⊢ iprop(((St I c 16 16 16 13 0 4) -∗ Φ ((k0_pay40 (val I c 12))))
        -∗ Run c (k0_part22 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v4) Φ) := by
  rw [k0_part22_eq_skeleton]; unfold k0_part22_skel
  simp only [semSignalWord, semWaitWord, Prog.lift, Prog.bind_op, Prog.bind_ret, Prog.pure_eq_ret]
  iintro ⟨#HR, #HL, H⟩ Hk
  iapply (step_recv (h := 16) (s := 16) (n := 16) (a := 11) (w := 0) (o := 3) I K c 1 3 11 rfl (by decide) (rcv_sem 1 3 11 rfl _)) $$ [H]
  · isplitr; · iexact HR
    isplitr; · iexact HL
    iexact H
  iintro H
  iapply (step_own (h := 16) (s := 16) (n := 16) (a := 12) (w := 0) (o := 3) I c 1 3 11 rfl (by decide)) $$ [H]; · iexact H
  iintro H
  iapply (step_theirs (h := 16) (s := 16) (n := 16) (a := 12) (w := 0) (o := 3) I c 1 3 11 rfl (by decide)) $$ [H]; · iexact H
  iintro H
  iapply (step_odead (h := 16) (s := 16) (n := 16) (a := 12) (w := 0) (o := 3) I c 0 384) $$ [H]; · iexact H
  iintro %v553 H
  iapply (step_out (h := 16) (s := 16) (n := 16) (a := 12) (w := 0) (o := 3) I c 0 384 3 rfl rfl rfl e1 rfl) $$ [H]; · iexact H
  iintro H
  iapply (step_recv (h := 16) (s := 16) (n := 16) (a := 12) (w := 0) (o := 4) I K c 1 4 12 rfl (by decide) (rcv_sem 1 4 12 rfl _)) $$ [H]
  · isplitr; · iexact HR
    isplitr; · iexact HL
    iexact H
  iintro H
  iapply (step_own (h := 16) (s := 16) (n := 16) (a := 13) (w := 0) (o := 4) I c 1 4 12 rfl (by decide)) $$ [H]; · iexact H
  iintro H
  iapply (run_ret c)
  iapply Hk
  iexact H

theorem part23 (v3 : BitVec 32) (v565 : FVec F S128x128 .bf16) {Φ : (PUnit) → sProp 𝕄}
    (e1 : (k0_pay41 v565 (val I (ptn c 12) 12)) = res I c 4)
    (e2 : (k0_pay42 (val I c 13) (val I (ptn c 13) 13)) = res I c 5) :
    iprop(recs I K ∗ levAts L lv ∗ St I c 16 16 16 13 0 4)
      ⊢ iprop(((St I c 16 16 16 14 0 6) -∗ Φ (⟨⟩))
        -∗ Run c (k0_part23 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v3 v565) Φ) := by
  rw [k0_part23_eq_skeleton]; unfold k0_part23_skel
  simp only [semSignalWord, semWaitWord, Prog.lift, Prog.bind_op, Prog.bind_ret, Prog.pure_eq_ret]
  iintro ⟨#HR, #HL, H⟩ Hk
  iapply (step_theirs (h := 16) (s := 16) (n := 16) (a := 13) (w := 0) (o := 4) I c 1 4 12 rfl (by decide)) $$ [H]; · iexact H
  iintro H
  iapply (step_odead (h := 16) (s := 16) (n := 16) (a := 13) (w := 0) (o := 4) I c 1 0) $$ [H]; · iexact H
  iintro %v569 H
  iapply (step_out (h := 16) (s := 16) (n := 16) (a := 13) (w := 0) (o := 4) I c 1 0 4 rfl rfl rfl e1 rfl) $$ [H]; · iexact H
  iintro H
  iapply (step_recv (h := 16) (s := 16) (n := 16) (a := 13) (w := 0) (o := 5) I K c 1 5 13 rfl (by decide) (rcv_sem 1 5 13 rfl _)) $$ [H]
  · isplitr; · iexact HR
    isplitr; · iexact HL
    iexact H
  iintro H
  iapply (step_own (h := 16) (s := 16) (n := 16) (a := 14) (w := 0) (o := 5) I c 1 5 13 rfl (by decide)) $$ [H]; · iexact H
  iintro H
  iapply (step_theirs (h := 16) (s := 16) (n := 16) (a := 14) (w := 0) (o := 5) I c 1 5 13 rfl (by decide)) $$ [H]; · iexact H
  iintro H
  iapply (step_odead (h := 16) (s := 16) (n := 16) (a := 14) (w := 0) (o := 5) I c 1 128) $$ [H]; · iexact H
  iintro %v585 H
  iapply (step_out (h := 16) (s := 16) (n := 16) (a := 14) (w := 0) (o := 5) I c 1 128 5 rfl rfl rfl e2 rfl) $$ [H]; · iexact H
  iintro H
  iapply (run_ret c)
  iapply Hk
  iexact H

theorem part24 (v3 : BitVec 32) (v4 : BitVec 32) {Φ : (PUnit) → sProp 𝕄}
    (e1 : (k0_pay43 (val I c 14) (val I (ptn c 14) 14)) = res I c 6) :
    iprop(recs I K ∗ levAts L lv ∗ St I c 16 16 16 14 0 6)
      ⊢ iprop(((St I c 16 16 16 16 0 7) -∗ Φ (⟨⟩))
        -∗ Run c (k0_part24 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 v3 v4) Φ) := by
  rw [k0_part24_eq_skeleton]; unfold k0_part24_skel
  simp only [semSignalWord, semWaitWord, Prog.lift, Prog.bind_op, Prog.bind_ret, Prog.pure_eq_ret]
  iintro ⟨#HR, #HL, H⟩ Hk
  iapply (step_recv (h := 16) (s := 16) (n := 16) (a := 14) (w := 0) (o := 6) I K c 1 6 14 rfl (by decide) (rcv_sem 1 6 14 rfl _)) $$ [H]
  · isplitr; · iexact HR
    isplitr; · iexact HL
    iexact H
  iintro H
  iapply (step_own (h := 16) (s := 16) (n := 16) (a := 15) (w := 0) (o := 6) I c 1 6 14 rfl (by decide)) $$ [H]; · iexact H
  iintro H
  iapply (step_theirs (h := 16) (s := 16) (n := 16) (a := 15) (w := 0) (o := 6) I c 1 6 14 rfl (by decide)) $$ [H]; · iexact H
  iintro H
  iapply (step_odead (h := 16) (s := 16) (n := 16) (a := 15) (w := 0) (o := 6) I c 1 256) $$ [H]; · iexact H
  iintro %v601 H
  iapply (step_out (h := 16) (s := 16) (n := 16) (a := 15) (w := 0) (o := 6) I c 1 256 6 rfl rfl rfl e1 rfl) $$ [H]; · iexact H
  iintro H
  iapply (step_recv (h := 16) (s := 16) (n := 16) (a := 15) (w := 0) (o := 7) I K c 1 7 15 rfl (by decide) (rcv_sem 1 7 15 rfl _)) $$ [H]
  · isplitr; · iexact HR
    isplitr; · iexact HL
    iexact H
  iintro H
  iapply (run_ret c)
  iapply Hk
  iexact H

theorem part25  {Φ : (PUnit) → sProp 𝕄}
    (e1 : (k0_pay44 (val I c 15) (val I (ptn c 15) 15)) = res I c 7) :
    iprop(recs I K ∗ levAts L lv ∗ St I c 16 16 16 16 0 7)
      ⊢ iprop(((St I c 16 16 16 16 2 8) -∗ Φ (⟨⟩))
        -∗ Run c (k0_part25 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 ) Φ) := by
  rw [k0_part25_eq_skeleton]; unfold k0_part25_skel
  simp only [semSignalWord, semWaitWord, Prog.lift, Prog.bind_op, Prog.bind_ret, Prog.pure_eq_ret]
  iintro ⟨#HR, #HL, H⟩ Hk
  iapply (step_own (h := 16) (s := 16) (n := 16) (a := 16) (w := 0) (o := 7) I c 1 7 15 rfl (by decide)) $$ [H]; · iexact H
  iintro H
  iapply (step_theirs (h := 16) (s := 16) (n := 16) (a := 16) (w := 0) (o := 7) I c 1 7 15 rfl (by decide)) $$ [H]; · iexact H
  iintro H
  iapply (step_odead (h := 16) (s := 16) (n := 16) (a := 16) (w := 0) (o := 7) I c 1 384) $$ [H]; · iexact H
  iintro %v617 H
  iapply (step_out (h := 16) (s := 16) (n := 16) (a := 16) (w := 0) (o := 7) I c 1 384 7 rfl rfl rfl e1 rfl) $$ [H]; · iexact H
  iintro H
  iapply (step_left (h := 16) (s := 16) (n := 16) (a := 16) (w := 0) (o := 8) I K c 0 0 0 rfl rfl (snd_sem 0 0 0 rfl _)) $$ [H]
  · isplitr; · iexact HR
    iexact H
  iintro H
  iapply (step_left (h := 16) (s := 16) (n := 16) (a := 16) (w := 1) (o := 8) I K c 0 1 1 rfl rfl (snd_sem 0 1 1 rfl _)) $$ [H]
  · isplitr; · iexact HR
    iexact H
  iintro H
  iapply (run_ret c)
  iapply Hk
  iexact H

theorem part26  {Φ : (PUnit) → sProp 𝕄} :
    iprop(recs I K ∗ levAts L lv ∗ St I c 16 16 16 16 2 8)
      ⊢ iprop(((St I c 16 16 16 16 5 8) -∗ Φ (⟨⟩))
        -∗ Run c (k0_part26 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 ) Φ) := by
  rw [k0_part26_eq_skeleton]; unfold k0_part26_skel
  simp only [semSignalWord, semWaitWord, Prog.lift, Prog.bind_op, Prog.bind_ret, Prog.pure_eq_ret]
  iintro ⟨#HR, #HL, H⟩ Hk
  iapply (step_left (h := 16) (s := 16) (n := 16) (a := 16) (w := 2) (o := 8) I K c 0 2 2 rfl rfl (snd_sem 0 2 2 rfl _)) $$ [H]
  · isplitr; · iexact HR
    iexact H
  iintro H
  iapply (step_left (h := 16) (s := 16) (n := 16) (a := 16) (w := 3) (o := 8) I K c 0 3 3 rfl rfl (snd_sem 0 3 3 rfl _)) $$ [H]
  · isplitr; · iexact HR
    iexact H
  iintro H
  iapply (step_left (h := 16) (s := 16) (n := 16) (a := 16) (w := 4) (o := 8) I K c 0 4 4 rfl rfl (snd_sem 0 4 4 rfl _)) $$ [H]
  · isplitr; · iexact HR
    iexact H
  iintro H
  iapply (run_ret c)
  iapply Hk
  iexact H

theorem part27  {Φ : (PUnit) → sProp 𝕄} :
    iprop(recs I K ∗ levAts L lv ∗ St I c 16 16 16 16 5 8)
      ⊢ iprop(((St I c 16 16 16 16 8 8) -∗ Φ (⟨⟩))
        -∗ Run c (k0_part27 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 ) Φ) := by
  rw [k0_part27_eq_skeleton]; unfold k0_part27_skel
  simp only [semSignalWord, semWaitWord, Prog.lift, Prog.bind_op, Prog.bind_ret, Prog.pure_eq_ret]
  iintro ⟨#HR, #HL, H⟩ Hk
  iapply (step_left (h := 16) (s := 16) (n := 16) (a := 16) (w := 5) (o := 8) I K c 0 5 5 rfl rfl (snd_sem 0 5 5 rfl _)) $$ [H]
  · isplitr; · iexact HR
    iexact H
  iintro H
  iapply (step_left (h := 16) (s := 16) (n := 16) (a := 16) (w := 6) (o := 8) I K c 0 6 6 rfl rfl (snd_sem 0 6 6 rfl _)) $$ [H]
  · isplitr; · iexact HR
    iexact H
  iintro H
  iapply (step_left (h := 16) (s := 16) (n := 16) (a := 16) (w := 7) (o := 8) I K c 0 7 7 rfl rfl (snd_sem 0 7 7 rfl _)) $$ [H]
  · isplitr; · iexact HR
    iexact H
  iintro H
  iapply (run_ret c)
  iapply Hk
  iexact H

theorem part28  {Φ : (PUnit) → sProp 𝕄} :
    iprop(recs I K ∗ levAts L lv ∗ St I c 16 16 16 16 8 8)
      ⊢ iprop(((St I c 16 16 16 16 11 8) -∗ Φ (⟨⟩))
        -∗ Run c (k0_part28 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 ) Φ) := by
  rw [k0_part28_eq_skeleton]; unfold k0_part28_skel
  simp only [semSignalWord, semWaitWord, Prog.lift, Prog.bind_op, Prog.bind_ret, Prog.pure_eq_ret]
  iintro ⟨#HR, #HL, H⟩ Hk
  iapply (step_left (h := 16) (s := 16) (n := 16) (a := 16) (w := 8) (o := 8) I K c 1 0 8 rfl rfl (snd_sem 1 0 8 rfl _)) $$ [H]
  · isplitr; · iexact HR
    iexact H
  iintro H
  iapply (step_left (h := 16) (s := 16) (n := 16) (a := 16) (w := 9) (o := 8) I K c 1 1 9 rfl rfl (snd_sem 1 1 9 rfl _)) $$ [H]
  · isplitr; · iexact HR
    iexact H
  iintro H
  iapply (step_left (h := 16) (s := 16) (n := 16) (a := 16) (w := 10) (o := 8) I K c 1 2 10 rfl rfl (snd_sem 1 2 10 rfl _)) $$ [H]
  · isplitr; · iexact HR
    iexact H
  iintro H
  iapply (run_ret c)
  iapply Hk
  iexact H

theorem part29  {Φ : (PUnit) → sProp 𝕄} :
    iprop(recs I K ∗ levAts L lv ∗ St I c 16 16 16 16 11 8)
      ⊢ iprop(((St I c 16 16 16 16 14 8) -∗ Φ (⟨⟩))
        -∗ Run c (k0_part29 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3 ) Φ) := by
  rw [k0_part29_eq_skeleton]; unfold k0_part29_skel
  simp only [semSignalWord, semWaitWord, Prog.lift, Prog.bind_op, Prog.bind_ret, Prog.pure_eq_ret]
  iintro ⟨#HR, #HL, H⟩ Hk
  iapply (step_left (h := 16) (s := 16) (n := 16) (a := 16) (w := 11) (o := 8) I K c 1 3 11 rfl rfl (snd_sem 1 3 11 rfl _)) $$ [H]
  · isplitr; · iexact HR
    iexact H
  iintro H
  iapply (step_left (h := 16) (s := 16) (n := 16) (a := 16) (w := 12) (o := 8) I K c 1 4 12 rfl rfl (snd_sem 1 4 12 rfl _)) $$ [H]
  · isplitr; · iexact HR
    iexact H
  iintro H
  iapply (step_left (h := 16) (s := 16) (n := 16) (a := 16) (w := 13) (o := 8) I K c 1 5 13 rfl rfl (snd_sem 1 5 13 rfl _)) $$ [H]
  · isplitr; · iexact HR
    iexact H
  iintro H
  iapply (run_ret c)
  iapply Hk
  iexact H

end Cert.Attn

end
-- ==== Proof.Body.lean ====
/-
The body of the kernel on one device, from what the device brings to what it leaves.
-/
module

public import proofs.«01_k».proof.Proof.Parts1
public import proofs.«01_k».proof.Proof.Parts2
public import proofs.«01_k».proof.Proof.Parts3

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Inputs F) (K : GSem nD τ sig → ℕ) (c : Dev nD) (i : grid0.Coords)

/-- What a device brings to the exchange besides its windows: its tokens for the barrier, the slots it hands out, its own
send slots, and for every transfer the tokens, positions and credits. -/
def start (c : Dev nD) : sProp 𝕄 :=
  iprop((dutyTok ER (barCell (nb c false)) 0 false ∗ reached ER (barCell (nb c false)) 0 ∗ dutyTok ER (barCell (nb c true)) 0 true ∗ reached ER (barCell (nb c true)) 0)
    ∗ (cred (tallyAt (barCell c) () 2) ∗ atPos ER (barCell c) 0 ∅ 0)
    ∗ (bigSep (Finset.univ.filter fun k : Fin 16 => par k = false) (fun k => handed (F := F) c k) ∗ bigSep (Finset.univ.filter fun k : Fin 16 => par k = true) (fun k => handed (F := F) c k))
    ∗ bigSep Finset.univ (fun k : Fin 16 => iprop(∃ f : Vec F S2x8x128x128 .bf16, sndPts fullShare c k f))
    ∗ bigSep Finset.univ (fun k : Fin 16 => iprop(dutyTok ER (sndCell c k) 0 false ∗ reached ER (sndCell c k) 0 ∗ dutyTok ER (rcvCell (ptn c k) k) 0 false
        ∗ atPos ER (sndCell c k) 0 ∅ 0))
    ∗ bigSep Finset.univ (fun k : Fin 16 => iprop(cred (tallyAt (rcvCell c k) () N) ∗ atPos ER (rcvCell c k) 0 ∅ 0)))

/-- What it has after it. -/
def finish (c : Dev nD) : sProp 𝕄 :=
  iprop((∃ W, owes (c : Thread nD τ) 0 W) ∗ atPos ER (barCell c) (0 + 1) ∅ 0
    ∗ bigSep Finset.univ (fun k : Fin 16 => iprop(rcvPts c k (rcvG I c) ∗ atPos ER (rcvCell c k) (0 + 1) ∅ 0))
    ∗ bigSep Finset.univ (fun k : Fin 16 => iprop(sndPts fullShare c k (sndG I c) ∗ atPos ER (sndCell c k) (0 + 1) ∅ 0))
    ∗ ((c : Thread nD τ).loc cc0_stg5_0) ↦{fullShare} outG I c)

theorem St_intro (W : Waits sig Unit) :
    iprop(owes (c : Thread nD τ) (OS c 0) W
      ∗ bigSep Finset.univ (fun k : Fin 16 => iprop(∃ f : Vec F S2x8x128x128 .bf16, sndPts fullShare c k f))
      ∗ bigSep Finset.univ (fun k : Fin 16 => iprop(dutyTok ER (sndCell c k) 0 false ∗ reached ER (sndCell c k) 0 ∗ dutyTok ER (rcvCell (ptn c k) k) 0 false
        ∗ atPos ER (sndCell c k) 0 ∅ 0))
      ∗ bigSep Finset.univ (fun k : Fin 16 => iprop(cred (tallyAt (rcvCell c k) () N) ∗ atPos ER (rcvCell c k) 0 ∅ 0))
      ∗ (∃ f : Vec F S2x128x512 .bf16, ((c : Thread nD τ).loc cc0_stg5_0) ↦{fullShare} f)) ⊢ St I c 0 0 0 0 0 0 := by
  unfold St outPts
  simp only [seg_all, seg_nil]
  iintro ⟨HO, HA, HT, HRc, ⟨%f, Hf⟩⟩
  isplitl [HO]; · iexists W; iexact HO
  isplitl [HA]; · iexact HA
  isplitr; · iempintro
  isplitl [HT]; · iexact HT
  isplitr; · iempintro
  isplitr; · iempintro
  isplitl [HRc]; · iexact HRc
  isplitr; · iempintro
  isplitr; · iempintro
  iexists f
  isplitr; · ipureintro; exact fun i hi => absurd hi (Nat.not_lt_zero _)
  iexact Hf

theorem St_elim : iprop(atPos ER (barCell c) (0 + 1) ∅ 0 ∗ St I c 16 16 16 16 16 8) ⊢ finish I c := by
  unfold St outPts finish
  simp only [seg_all, OS_nil]
  iintro ⟨Hba, HO, -, -, -, -, -, -, HG, HD, ⟨%g, %hg, Hg⟩⟩
  obtain rfl : g = outG I c := funext fun i => hg i (chunkOf i).isLt
  isplitl [HO]; · iexact HO
  isplitl [Hba]; · iexact Hba
  isplitl [HG]; · iexact HG
  isplitl [HD]; · iexact HD
  iexact Hg

theorem part30 (W : Waits sig Unit) {Φ : PUnit → sProp 𝕄} :
    iprop(recs I K ∗ levAts L lv ∗ owes (c : Thread nD τ) (O₀ c) W ∗ start c ∗ ins I c ∗ (∃ f : Vec F S2x128x512 .bf16, ((c : Thread nD τ).loc cc0_stg5_0) ↦{fullShare} f))
      ⊢ iprop(((atPos ER (barCell c) (0 + 1) ∅ 0 ∗ St I c 16 16 16 16 15 8 ∗ ins I c) -∗ Φ ⟨⟩)
        -∗ Run c (k0_part30 i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3) Φ) := by
  rw [k0_part30_eq_skeleton]; unfold k0_part30_skel start
  iintro ⟨#HR, #HL, HO, ⟨⟨Ht1, #Hr1, Ht2, #Hr2⟩, ⟨Hbc, Hba⟩, ⟨Hs1, Hs2⟩, HA, HT, HRc⟩, Hin, Hout⟩ Hk
  unfold Run
  rw [wp_bind]
  iapply (part1 I K c i  W ) $$ [HO Ht1 Hs1 Ht2 Hs2 Hin]
  · isplitr; · iexact HR
    isplitr; · iexact HL
    isplitl [HO]; · iexact HO
    isplitl [Ht1]; · iexact Ht1
    isplitr; · iexact Hr1
    isplitl [Hs1]; · iexact Hs1
    isplitl [Ht2]; · iexact Ht2
    isplitr; · iexact Hr2
    isplitl [Hs2]; · iexact Hs2
    iexact Hin
  iintro ⟨HO, Hin⟩
  try dsimp only
  rw [wp_bind]
  iapply (part2 I K c i _ _ _ _ ) $$ [Hin]
  · isplitr; · iexact HR
    isplitr; · iexact HL
    iexact Hin
  iintro Hin
  try dsimp only
  rw [wp_bind]
  ihave H := (St_intro I c W) $$ [HO HA HT HRc Hout]
  · isplitl [HO]; · iexact HO
    isplitl [HA]; · iexact HA
    isplitl [HT]; · iexact HT
    isplitl [HRc]; · iexact HRc
    iexact Hout
  iapply (part3 I K c i _ _ _ _ _ _ rfl) $$ [Hbc Hba H Hin]
  · isplitr; · iexact HR
    isplitr; · iexact HL
    isplitl [Hbc]; · iexact Hbc
    isplitl [Hba]; · iexact Hba
    isplitl [H]; · iexact H
    iexact Hin
  iintro ⟨Hba, H, Hin⟩
  try dsimp only
  rw [wp_bind]
  iapply (part4 I K c i _ _ _ rfl rfl) $$ [H]
  · isplitr; · iexact HR
    isplitr; · iexact HL
    iexact H
  iintro H
  try dsimp only
  rw [wp_bind]
  iapply (part5 I K c i _ _ _ _ rfl) $$ [H]
  · isplitr; · iexact HR
    isplitr; · iexact HL
    iexact H
  iintro H
  try dsimp only
  rw [wp_bind]
  iapply (part6 I K c i _ ) $$ [Hin]
  · isplitr; · iexact HR
    isplitr; · iexact HL
    iexact Hin
  iintro Hin
  try dsimp only
  rw [wp_bind]
  iapply (part7 I K c i _ _ _ _ _ ) $$ [Hin]
  · isplitr; · iexact HR
    isplitr; · iexact HL
    iexact Hin
  iintro Hin
  try dsimp only
  rw [wp_bind]
  iapply (part8 I K c i _ _ _ _ _ rfl rfl) $$ [H]
  · isplitr; · iexact HR
    isplitr; · iexact HL
    iexact H
  iintro H
  try dsimp only
  rw [wp_bind]
  iapply (part9 I K c i _ _ _ rfl rfl) $$ [H]
  · isplitr; · iexact HR
    isplitr; · iexact HL
    iexact H
  iintro H
  try dsimp only
  rw [wp_bind]
  iapply (part10 I K c i _ _ ) $$ [H]
  · isplitr; · iexact HR
    isplitr; · iexact HL
    iexact H
  iintro H
  try dsimp only
  rw [wp_bind]
  iapply (part11 I K c i _ _ (val_hi I c 0).symm) $$ [H]
  · isplitr; · iexact HR
    isplitr; · iexact HL
    iexact H
  iintro H
  try dsimp only
  rw [wp_bind]
  iapply (part12 I K c i _ _ (val_hi I c 1).symm) $$ [H]
  · isplitr; · iexact HR
    isplitr; · iexact HL
    iexact H
  iintro H
  try dsimp only
  rw [wp_bind]
  iapply (part13 I K c i _ (val_hi I c 2).symm) $$ [H]
  · isplitr; · iexact HR
    isplitr; · iexact HL
    iexact H
  iintro H
  try dsimp only
  rw [wp_bind]
  iapply (part14 I K c i _ _ (val_hi I c 3).symm) $$ [H]
  · isplitr; · iexact HR
    isplitr; · iexact HL
    iexact H
  iintro H
  try dsimp only
  rw [wp_bind]
  iapply (part15 I K c i _ _ (val_hi I c 4).symm) $$ [H]
  · isplitr; · iexact HR
    isplitr; · iexact HL
    iexact H
  iintro H
  try dsimp only
  rw [wp_bind]
  iapply (part16 I K c i _ (val_hi I c 5).symm) $$ [H]
  · isplitr; · iexact HR
    isplitr; · iexact HL
    iexact H
  iintro H
  try dsimp only
  rw [wp_bind]
  iapply (part17 I K c i _ ) $$ [H]
  · isplitr; · iexact HR
    isplitr; · iexact HL
    iexact H
  iintro H
  try dsimp only
  rw [wp_bind]
  iapply (part18 I K c i _ _ (val_hi I c 6).symm) $$ [H]
  · isplitr; · iexact HR
    isplitr; · iexact HL
    iexact H
  iintro H
  try dsimp only
  rw [wp_bind]
  iapply (part19 I K c i _ _ _ _ (val_hi I c 7).symm) $$ [H]
  · isplitr; · iexact HR
    isplitr; · iexact HL
    iexact H
  iintro H
  try dsimp only
  rw [wp_bind]
  iapply (part20 I K c i _ rfl) $$ [H]
  · isplitr; · iexact HR
    isplitr; · iexact HL
    iexact H
  iintro H
  try dsimp only
  rw [wp_bind]
  iapply (part21 I K c i _ _ _ rfl rfl) $$ [H]
  · isplitr; · iexact HR
    isplitr; · iexact HL
    iexact H
  iintro H
  try dsimp only
  rw [wp_bind]
  iapply (part22 I K c i _ rfl) $$ [H]
  · isplitr; · iexact HR
    isplitr; · iexact HL
    iexact H
  iintro H
  try dsimp only
  rw [wp_bind]
  iapply (part23 I K c i _ _ rfl rfl) $$ [H]
  · isplitr; · iexact HR
    isplitr; · iexact HL
    iexact H
  iintro H
  try dsimp only
  rw [wp_bind]
  iapply (part24 I K c i _ _ rfl) $$ [H]
  · isplitr; · iexact HR
    isplitr; · iexact HL
    iexact H
  iintro H
  try dsimp only
  rw [wp_bind]
  iapply (part25 I K c i  rfl) $$ [H]
  · isplitr; · iexact HR
    isplitr; · iexact HL
    iexact H
  iintro H
  try dsimp only
  rw [wp_bind]
  iapply (part26 I K c i  ) $$ [H]
  · isplitr; · iexact HR
    isplitr; · iexact HL
    iexact H
  iintro H
  try dsimp only
  rw [wp_bind]
  iapply (part27 I K c i  ) $$ [H]
  · isplitr; · iexact HR
    isplitr; · iexact HL
    iexact H
  iintro H
  try dsimp only
  rw [wp_bind]
  iapply (part28 I K c i  ) $$ [H]
  · isplitr; · iexact HR
    isplitr; · iexact HL
    iexact H
  iintro H
  try dsimp only
  rw [wp_bind]
  iapply (part29 I K c i  ) $$ [H]
  · isplitr; · iexact HR
    isplitr; · iexact HL
    iexact H
  iintro H
  try dsimp only
  simp only [Prog.lift, Prog.bind_op, Prog.bind_ret, Prog.pure_eq_ret]
  iapply (step_left (h := 16) (s := 16) (n := 16) (a := 16) (w := 14) (o := 8) I K c 1 6 14 rfl rfl (snd_sem 1 6 14 rfl _)) $$ [H]
  · isplitr; · iexact HR
    iexact H
  iintro H
  iapply (run_ret c)
  iapply Hk
  isplitl [Hba]; · iexact Hba
  isplitl [H]; · iexact H
  iexact Hin

/-- The body of the kernel on device `c`. -/
theorem body_run (W : Waits sig Unit) {Φ : PUnit → sProp 𝕄} :
    iprop(recs I K ∗ levAts L lv ∗ owes (c : Thread nD τ) (O₀ c) W ∗ start c ∗ ins I c ∗ (∃ f : Vec F S2x128x512 .bf16, ((c : Thread nD τ).loc cc0_stg5_0) ↦{fullShare} f))
      ⊢ iprop(((finish I c ∗ ins I c) -∗ Φ ⟨⟩)
        -∗ Run c (cc0_body i (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) outM (Memref.isWhole_whole _) sndM (Memref.isWhole_whole _) rcvM (Memref.isWhole_whole _) cc0_scratch2 cc0_scratch3) Φ) := by
  rw [cc0_body_eq_skeleton]; unfold cc0_body_skel
  iintro ⟨#HR, #HL, HO, Hst, Hin, Hout⟩ Hk
  unfold Run
  rw [wp_bind]
  iapply (part30 I K c i W) $$ [HO Hst Hin Hout]
  · isplitr; · iexact HR
    isplitr; · iexact HL
    isplitl [HO]; · iexact HO
    isplitl [Hst]; · iexact Hst
    isplitl [Hin]; · iexact Hin
    iexact Hout
  iintro ⟨Hba, H, Hin⟩
  try dsimp only
  simp only [Prog.lift, Prog.bind_op, Prog.bind_ret, Prog.pure_eq_ret]
  iapply (step_left (h := 16) (s := 16) (n := 16) (a := 16) (w := 15) (o := 8) I K c 1 7 15 rfl rfl (snd_sem 1 7 15 rfl _)) $$ [H]
  · isplitr; · iexact HR
    iexact H
  iintro H
  iapply (run_ret c)
  iapply Hk
  isplitl [Hba H]
  · iapply (St_elim I c)
    isplitl [Hba]; · iexact Hba
    iexact H
  iexact Hin

end Cert.Attn

end
-- ==== Proof.Region.lean ====
/-
The kernel's one region: what a device holds before and after it, and its record for the launch.
-/
module

public import proofs.«01_k».proof.Proof.Body
public import Idealize.ShloMosaic.Lib.Ring

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Idealize.ShloMosaic.Pipeline (Dat Cfg Window BodyObligation cellOf)

set_option maxRecDepth 4000

variable {F : FTy → Type} [FloatOps F]

local notation "𝕄" => MT nD τ sig Unit (Elt F) ℕ UU ℕ

/-! ## The thirty-two transfer cells, by direction -/

def low (k : Fin 16) : Fin 32 := ⟨k.val, by omega⟩
def high (k : Fin 16) : Fin 32 := ⟨16 + k.val, by omega⟩
def lowEmb : Fin 16 ↪ Fin 32 := ⟨low, fun a b h => Fin.ext (congrArg (fun z : Fin 32 => z.val) h)⟩
def highEmb : Fin 16 ↪ Fin 32 := ⟨high, fun a b h => Fin.ext (Nat.add_left_cancel (congrArg (fun z : Fin 32 => z.val) h))⟩

/-- A conjunction over the thirty-two cells is one over the send cells and one over the receive cells. -/
theorem bigSep_both {M : Type} [URA M] (Φ : Fin 32 → sProp M) :
    bigSep Finset.univ Φ = iprop(bigSep Finset.univ (fun k => Φ (low k)) ∗ bigSep Finset.univ fun k => Φ (high k)) := by
  have e : (Finset.univ : Finset (Fin 32)) = Finset.univ.map lowEmb ∪ Finset.univ.map highEmb := by decide
  have d : Disjoint (Finset.univ.map lowEmb) (Finset.univ.map highEmb) := by decide
  rw [e, BI.bigSep_union d, BI.bigSep_map, BI.bigSep_map]
  rfl

/-! ## The exchange buffers cut in slots -/

omit [FloatOps F] in
theorem snd_slots (c : Dev nD) (f : Vec F S2x8x128x128 .bf16) :
    (((c : Thread nD τ).loc cc0_scratch0) ↦{fullShare} f : sProp 𝕄) = bigSep Finset.univ fun k => sndPts fullShare c k f :=
  pointsTo_blocks (ℓ := (c : Thread nD τ).loc cc0_scratch0) slotSet slot_disjoint slot_cover f
omit [FloatOps F] in
theorem rcv_slots (c : Dev nD) (f : Vec F S2x8x128x128 .bf16) :
    (((c : Thread nD τ).loc cc0_scratch1) ↦{fullShare} f : sProp 𝕄) = bigSep Finset.univ fun k => rcvPts c k f :=
  pointsTo_blocks (ℓ := (c : Thread nD τ).loc cc0_scratch1) slotSet slot_disjoint slot_cover f

/-! ## Contents -/

variable (m : (ℓ : Loc nD τ sig) → Buf (Elt F) ℓ)

/-- What the region reads on device `c`: its five operands as the host code leaves them. -/
def args (c : Dev nD) : Inputs F where
  x := V1 m c main_arg0
  wq := V1 m c main_arg1
  k := V1 m c main_v10
  v := V1 m c main_v16
  wo := V1 m c main_arg4

/-- The buffers after the region: the result array is written, all else as before. -/
def Wend (c : Dev nD) : Valuation τ sig (Elt F) := Function.update (V1 m c) main_v17 (outG (args m) c)

theorem Wend_out (c : Dev nD) : Wend m c main_v17 = outG (args m) c := Function.update_self ..
theorem Wend_of (c : Dev nD) (r : Ref sig .tc) (h : r ≠ main_v17) : Wend m c r = V1 m c r :=
  Function.update_of_ne (StableHlo.devRef_ne_of_ne h) ..

/-! ## What the region starts from and ends with -/

/-- What the launch keeps for the region on device `c`. -/
def Tk (c : Dev nD) : sProp 𝕄 :=
  iprop((∃ K, recs (args m) K)
    ∗ (dutyTok ER (barCell (nb c false)) 0 false ∗ reached ER (barCell (nb c false)) 0 ∗ dutyTok ER (barCell (nb c true)) 0 true ∗ reached ER (barCell (nb c true)) 0)
    ∗ (cred (tallyAt (barCell c) () 2) ∗ atPos ER (barCell c) 0 ∅ 0)
    ∗ bigSep Finset.univ (fun k : Fin 16 => iprop(dutyTok ER (sndCell c k) 0 false ∗ dutyTok ER (rcvCell (ptn c k) k) 0 false))
    ∗ bigSep Finset.univ (fun k : Fin 16 => (cred (tallyAt (rcvCell c k) () N) : sProp 𝕄))
    ∗ bigSep Finset.univ (fun j : Fin 32 => (openTok ER ((c : Thread nD τ), osem j) : sProp 𝕄)))

/-- The same with the transfer cells opened. -/
def Xk (c : Dev nD) : sProp 𝕄 :=
  iprop((∃ K, recs (args m) K) ∗ levAts L lv
    ∗ (dutyTok ER (barCell (nb c false)) 0 false ∗ reached ER (barCell (nb c false)) 0 ∗ dutyTok ER (barCell (nb c true)) 0 true ∗ reached ER (barCell (nb c true)) 0)
    ∗ (cred (tallyAt (barCell c) () 2) ∗ atPos ER (barCell c) 0 ∅ 0)
    ∗ bigSep Finset.univ (fun k : Fin 16 => iprop(dutyTok ER (sndCell c k) 0 false ∗ dutyTok ER (rcvCell (ptn c k) k) 0 false))
    ∗ bigSep Finset.univ (fun k : Fin 16 => (cred (tallyAt (rcvCell c k) () N) : sProp 𝕄))
    ∗ bigSep Finset.univ (fun j : Fin 32 => iprop(atPos ER ((c : Thread nD τ), osem j) 0 ∅ 0 ∗ reached ER ((c : Thread nD τ), osem j) 0)))

def Yk (c : Dev nD) : sProp 𝕄 := semVal (barCell c) 0

def scr0 (c : Dev nD) : sProp 𝕄 := iprop(∃ f : Vec F S2x8x128x128 .bf16, ((c : Thread nD τ).loc cc0_scratch0) ↦{fullShare} f)
def scr1 (c : Dev nD) : sProp 𝕄 := iprop(∃ f : Vec F S2x8x128x128 .bf16, ((c : Thread nD τ).loc cc0_scratch1) ↦{fullShare} f)

def Φ₀ (c : Dev nD) : sProp 𝕄 := iprop(Xk m c ∗ scr0 (F := F) c ∗ scr1 (F := F) c ∗ ∃ r, prngReg c r)
def Φ₁ (c : Dev nD) : sProp 𝕄 := iprop(Yk (F := F) c ∗ Pipeline.ownSems0 osem c ∗ scr0 (F := F) c ∗ scr1 (F := F) c ∗ ∃ r, prngReg c r)

/-- The region's data on device `c`. -/
def dats (_ : Fin 1) (c : Dev nD) : Dat τ (Elt F) Unit ℕ UU ℕ cfg0 c where
  A w := V1 m c (Proc.devRef .tc (Pipeline.arrRef spec0 w))
  after w _ := match w with
    | ⟨0, _⟩ => (args m c).x
    | ⟨1, _⟩ => (args m c).wq
    | ⟨2, _⟩ => (args m c).k
    | ⟨3, _⟩ => (args m c).v
    | ⟨4, _⟩ => (args m c).wo
    | ⟨5, _⟩ => outG (args m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The windows are whole arrays -/

theorem off_zero (w : Fin 6) (t : Fin grid0.N) : ∀ a, (win0 w).kind.off ((win0 w).indexMap (grid0.coords t) a) ((win0 w).size a) = 0 := by
  rw [fin_N0 t]; revert w; decide

omit [FloatOps F] in
theorem blk0 (f : main_arg0.ty.Contents (Elt F)) : (((cfg0).win (0 : Fin 6)).blk t0_0).view.read (Elt F) f = f :=
  Memref.read_access_unit_zero (Elt F) main_arg0 (funext fun a => off_zero 0 t0_0 a) _ f
theorem before0 (c : Dev nD) (d) : (dats m 0 c).before (0 : Fin 6) t0_0 d = (args m c).x := by
  unfold Dat.before; rw [if_pos (fetch0_0 _)]
  exact blk0 (V1 m c main_arg0)
omit [FloatOps F] in
theorem blk1 (f : main_arg1.ty.Contents (Elt F)) : (((cfg0).win (1 : Fin 6)).blk t0_0).view.read (Elt F) f = f :=
  Memref.read_access_unit_zero (Elt F) main_arg1 (funext fun a => off_zero 1 t0_0 a) _ f
theorem before1 (c : Dev nD) (d) : (dats m 0 c).before (1 : Fin 6) t0_0 d = (args m c).wq := by
  unfold Dat.before; rw [if_pos (fetch0_1 _)]
  exact blk1 (V1 m c main_arg1)
omit [FloatOps F] in
theorem blk2 (f : main_v10.ty.Contents (Elt F)) : (((cfg0).win (2 : Fin 6)).blk t0_0).view.read (Elt F) f = f :=
  Memref.read_access_unit_zero (Elt F) main_v10 (funext fun a => off_zero 2 t0_0 a) _ f
theorem before2 (c : Dev nD) (d) : (dats m 0 c).before (2 : Fin 6) t0_0 d = (args m c).k := by
  unfold Dat.before; rw [if_pos (fetch0_2 _)]
  exact blk2 (V1 m c main_v10)
omit [FloatOps F] in
theorem blk3 (f : main_v16.ty.Contents (Elt F)) : (((cfg0).win (3 : Fin 6)).blk t0_0).view.read (Elt F) f = f :=
  Memref.read_access_unit_zero (Elt F) main_v16 (funext fun a => off_zero 3 t0_0 a) _ f
theorem before3 (c : Dev nD) (d) : (dats m 0 c).before (3 : Fin 6) t0_0 d = (args m c).v := by
  unfold Dat.before; rw [if_pos (fetch0_3 _)]
  exact blk3 (V1 m c main_v16)
omit [FloatOps F] in
theorem blk4 (f : main_arg4.ty.Contents (Elt F)) : (((cfg0).win (4 : Fin 6)).blk t0_0).view.read (Elt F) f = f :=
  Memref.read_access_unit_zero (Elt F) main_arg4 (funext fun a => off_zero 4 t0_0 a) _ f
theorem before4 (c : Dev nD) (d) : (dats m 0 c).before (4 : Fin 6) t0_0 d = (args m c).wo := by
  unfold Dat.before; rw [if_pos (fetch0_4 _)]
  exact blk4 (V1 m c main_arg4)

/-- The result array after the one point. -/
theorem arrAt_out (c : Dev nD) : (dats m 0 c).arrAt (5 : Fin 6) 1 = outG (args m) c := by
  unfold Dat.arrAt
  dsimp only
  rw [dif_pos (show 0 < cfg0.N from by decide), if_pos (flush0_5 _)]
  exact Memref.write_access_unit_zero_univ (Elt F) main_v17 (funext fun a => off_zero 5 t0_0 a) _ _ (outG (args m) c)

/-! ## Into the body and out of it -/

omit [FloatOps F] in
theorem handed_one (c : Dev nD) (k : Fin 16) (f : Vec F S2x8x128x128 .bf16) :
    iprop(rcvPts c k f ∗ reached ER (rcvCell c k) 0) ⊢ handed (F := F) c k := by
  unfold handed
  iintro ⟨H1, H2⟩
  isplitl [H1]; · iexists f; iexact H1
  iexact H2

omit [FloatOps F] in
theorem snd_one (c : Dev nD) (k : Fin 16) (f : Vec F S2x8x128x128 .bf16) :
    sndPts fullShare c k f ⊢ (iprop(∃ f : Vec F S2x8x128x128 .bf16, sndPts fullShare c k f) : sProp 𝕄) := by
  iintro H; iexists f; iexact H

omit [FloatOps F] in
theorem handed_intro (c : Dev nD) :
    iprop(scr1 (F := F) c ∗ bigSep Finset.univ (fun k : Fin 16 => (reached ER (rcvCell c k) 0 : sProp 𝕄)))
      ⊢ bigSep Finset.univ fun k : Fin 16 => handed (F := F) c k := by
  unfold scr1
  iintro ⟨⟨%f, Hf⟩, Hr⟩
  ihave Hf := (Entails.of_eq (rcv_slots c f)) $$ Hf
  ihave H := (Entails.of_eq (bigSep_sep' (Finset.univ : Finset (Fin 16)) (fun k => rcvPts c k f) (fun k => (reached ER (rcvCell c k) 0 : sProp 𝕄))).symm) $$ [Hf Hr]
  · isplitl [Hf] <;> iassumption
  iapply (show (bigSep Finset.univ (fun k : Fin 16 => iprop(rcvPts c k f ∗ reached ER (rcvCell c k) 0)) : sProp 𝕄) ⊢ bigSep Finset.univ fun k : Fin 16 => handed (F := F) c k from
    BI.bigSep_mono fun k _ => handed_one c k f)
  iexact H

omit [FloatOps F] in
theorem handed_split (c : Dev nD) :
    (bigSep Finset.univ (fun k : Fin 16 => handed (F := F) c k) : sProp 𝕄)
      = iprop(bigSep (Finset.univ.filter fun k : Fin 16 => par k = false) (fun k => handed (F := F) c k)
          ∗ bigSep (Finset.univ.filter fun k : Fin 16 => par k = true) (fun k => handed (F := F) c k)) := by
  rw [BI.bigSep_filter_split (Finset.univ : Finset (Fin 16)) (fun k : Fin 16 => par k = false),
    show (Finset.univ.filter fun k : Fin 16 => par k = true) = Finset.univ.filter fun k : Fin 16 => ¬par k = false from Finset.filter_congr fun k _ => by simp]
  rfl

omit [FloatOps F] in
theorem start_intro (c : Dev nD) :
    iprop((dutyTok ER (barCell (nb c false)) 0 false ∗ reached ER (barCell (nb c false)) 0 ∗ dutyTok ER (barCell (nb c true)) 0 true ∗ reached ER (barCell (nb c true)) 0)
      ∗ (cred (tallyAt (barCell c) () 2) ∗ atPos ER (barCell c) 0 ∅ 0)
      ∗ bigSep Finset.univ (fun k : Fin 16 => iprop(dutyTok ER (sndCell c k) 0 false ∗ dutyTok ER (rcvCell (ptn c k) k) 0 false))
      ∗ bigSep Finset.univ (fun k : Fin 16 => (cred (tallyAt (rcvCell c k) () N) : sProp 𝕄))
      ∗ bigSep Finset.univ (fun j : Fin 32 => iprop(atPos ER ((c : Thread nD τ), osem j) 0 ∅ 0 ∗ reached ER ((c : Thread nD τ), osem j) 0))
      ∗ scr0 (F := F) c ∗ scr1 (F := F) c) ⊢ start (F := F) c := by
  rw [bigSep_both, bigSep_sep', bigSep_sep', bigSep_sep']
  unfold start
  rw [bigSep_sep', bigSep_sep', bigSep_sep', bigSep_sep']
  iintro ⟨H1, H2, ⟨Ht1, Ht2⟩, Hc, ⟨⟨Hs1, Hs2⟩, Hr1, Hr2⟩, Hb0, Hb1⟩
  isplitl [H1]; · iexact H1
  isplitl [H2]; · iexact H2
  isplitl [Hb1 Hr2]
  · ihave H := (handed_intro (F := F) c) $$ [Hb1 Hr2]
    · isplitl [Hb1]; · iexact Hb1
      iexact Hr2
    iapply (Entails.of_eq (handed_split (F := F) c)); iexact H
  isplitl [Hb0]
  · unfold scr0
    icases Hb0 with ⟨%f, Hf⟩
    ihave Hf := (Entails.of_eq (snd_slots c f)) $$ Hf
    iapply (show (bigSep Finset.univ (fun k : Fin 16 => sndPts fullShare c k f) : sProp 𝕄) ⊢ bigSep Finset.univ fun k : Fin 16 => iprop(∃ f : Vec F S2x8x128x128 .bf16, sndPts fullShare c k f) from
      BI.bigSep_mono fun k _ => snd_one c k f)
    iexact Hf
  isplitl [Ht1 Hs2 Ht2 Hs1]
  · isplitl [Ht1]; · iexact Ht1
    isplitl [Hs2]; · iexact Hs2
    isplitl [Ht2]; · iexact Ht2
    iexact Hs1
  isplitl [Hc]; · iexact Hc
  iexact Hr1

/-- The transfer cells closed. -/
theorem cells_closed (K : GSem nD τ sig → ℕ) (c : Dev nD) :
    iprop(recs (args m) K ∗ bigSep Finset.univ (fun j : Fin 32 => (atPos ER ((c : Thread nD τ), osem j) (0 + 1) ∅ 0 : sProp 𝕄)))
      ⊢ |={Set.univ}=> (Pipeline.ownSems0 osem c : sProp 𝕄) := by
  refine (BI.bigSep_with_persistent (R := recs (args m) K) (Ψ := fun j : Fin 32 => iprop(|={Set.univ}=> semVal (((c : Thread nD τ), osem j) : GSem nD τ sig) 0)) fun j _ => ?_).trans ?_
  · iintro ⟨#HI, H⟩
    iapply (Rounds.cell_close ER (Rd (args m)) (g := ((c : Thread nD τ), osem j)) (Set.mem_univ (K ((c : Thread nD τ), osem j))) (fun h => h) (R := 0 + 1) (duties_later (args m) _))
    isplitr; · iapply (recs_osem (args m) K c j); iexact HI
    iexact H
  · exact (bigSep_fupd Finset.univ _)

theorem cells_opened (K : GSem nD τ sig → ℕ) (c : Dev nD) :
    iprop(recs (args m) K ∗ bigSep Finset.univ (fun j : Fin 32 => iprop(openTok ER ((c : Thread nD τ), osem j) ∗ semVal (((c : Thread nD τ), osem j) : GSem nD τ sig) 0)))
      ⊢ |={Set.univ}=> bigSep Finset.univ (fun j : Fin 32 => (iprop(atPos ER ((c : Thread nD τ), osem j) 0 ∅ 0 ∗ reached ER ((c : Thread nD τ), osem j) 0) : sProp 𝕄)) := by
  refine (BI.bigSep_with_persistent (R := recs (args m) K) (Ψ := fun j : Fin 32 => iprop(|={Set.univ}=> (atPos ER ((c : Thread nD τ), osem j) 0 ∅ 0 ∗ reached ER ((c : Thread nD τ), osem j) 0))) fun j _ => ?_).trans ?_
  · iintro ⟨#HI, H1, H2⟩
    iapply (Rounds.cell_open ER (Rd (args m)) (g := ((c : Thread nD τ), osem j)) (Set.mem_univ (K ((c : Thread nD τ), osem j))))
    isplitr; · iapply (recs_osem (args m) K c j); iexact HI
    isplitl [H1] <;> iassumption
  · exact (bigSep_fupd Finset.univ _)

theorem finish_elim (K : GSem nD τ sig → ℕ) (c : Dev nD) :
    iprop(recs (args m) K ∗ finish (args m) c)
      ⊢ |={Set.univ}=> iprop((∃ W, owes (c : Thread nD τ) 0 W) ∗ Yk (F := F) c ∗ Pipeline.ownSems0 osem c ∗ scr0 (F := F) c ∗ scr1 (F := F) c
          ∗ ((c : Thread nD τ).loc cc0_stg5_0) ↦{fullShare} outG (args m) c) := by
  unfold finish
  rw [bigSep_sep', bigSep_sep']
  iintro ⟨#HI, HO, Hb, ⟨Hr, Hra⟩, ⟨Hs, Hsa⟩, Hout⟩
  imod (Rounds.cell_close ER (Rd (args m)) (g := barCell c) (Set.mem_univ (K (barCell c))) (fun h => h) (R := 0 + 1) (duties_later (args m) _)) $$ [Hb] with Hz
  · isplitr; · iapply (recs_bar (args m) K c); iexact HI
    iexact Hb
  imod (cells_closed m K c) $$ [Hra Hsa] with Hos
  · isplitr; · iexact HI
    rw [bigSep_both]
    isplitl [Hsa]; · iexact Hsa
    iexact Hra
  imodintro
  isplitl [HO]; · iexact HO
  isplitl [Hz]; · unfold Yk; iexact Hz
  isplitl [Hos]; · iexact Hos
  isplitl [Hs]
  · unfold scr0; iexists (sndG (args m) c); iapply (Entails.of_eq (snd_slots c (sndG (args m) c)).symm); iexact Hs
  isplitl [Hr]
  · unfold scr1; iexists (rcvG (args m) c); iapply (Entails.of_eq (rcv_slots c (rcvG (args m) c)).symm); iexact Hr
  iexact Hout

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns c (Memref.whole b) fullShare X : sProp 𝕄) = stg c b X := by
  unfold owns; simp only [Memref.view_whole, View.read_whole, View.set_whole]

def bodyPre (c : Dev nD) : sProp 𝕄 :=
  iprop((dats m 0 c).Φ t0_0.castSucc ∗ (dats m 0 c).owesAt () t0_0.castSucc
    ∗ (∃ d, stg c cc0_stg0_0 ((dats m 0 c).before (0 : Fin 6) t0_0 d))
    ∗ (∃ d, stg c cc0_stg1_0 ((dats m 0 c).before (1 : Fin 6) t0_0 d))
    ∗ (∃ d, stg c cc0_stg2_0 ((dats m 0 c).before (2 : Fin 6) t0_0 d))
    ∗ (∃ d, stg c cc0_stg3_0 ((dats m 0 c).before (3 : Fin 6) t0_0 d))
    ∗ (∃ d, stg c cc0_stg4_0 ((dats m 0 c).before (4 : Fin 6) t0_0 d))
    ∗ (∃ d, stg c cc0_stg5_0 ((dats m 0 c).before (5 : Fin 6) t0_0 d)))

def bodyPost (c : Dev nD) : sProp 𝕄 :=
  iprop((dats m 0 c).Φ t0_0.succ ∗ (dats m 0 c).owesAt () t0_0.succ
    ∗ stg c cc0_stg0_0 ((dats m 0 c).after (0 : Fin 6) t0_0) ∗ stg c cc0_stg1_0 ((dats m 0 c).after (1 : Fin 6) t0_0) ∗ stg c cc0_stg2_0 ((dats m 0 c).after (2 : Fin 6) t0_0)
    ∗ stg c cc0_stg3_0 ((dats m 0 c).after (3 : Fin 6) t0_0) ∗ stg c cc0_stg4_0 ((dats m 0 c).after (4 : Fin 6) t0_0) ∗ stg c cc0_stg5_0 ((dats m 0 c).after (5 : Fin 6) t0_0))

theorem sound_body (c : Dev nD) (i : grid0.Coords) :
    bodyPre m c ⊢ Run c (cc0_body i (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      cc0_scratch2 cc0_scratch3) (fun _ => bodyPost m c) := by
  unfold bodyPre
  rw [show (dats m 0 c).Φ t0_0.castSucc = Φ₀ m c from rfl]
  unfold Φ₀ Xk
  iintro ⟨⟨⟨⟨%K, #HI⟩, #Hlev, H1, H2, H3, H4, H5⟩, Hs0, Hs1, Hprng⟩, Ho, ⟨%d0, %g0, %h0, Hg0⟩, ⟨%d1, %g1, %h1, Hg1⟩, ⟨%d2, %g2, %h2, Hg2⟩, ⟨%d3, %g3, %h3, Hg3⟩, ⟨%d4, %g4, %h4, Hg4⟩, ⟨%d5, %g5, %h5, Hg5⟩⟩
  rw [before0] at h0; rw [before1] at h1; rw [before2] at h2; rw [before3] at h3; rw [before4] at h4
  subst h0 h1 h2 h3 h4
  unfold Dat.owesAt Pipeline.owesWithin
  icases Ho with ⟨%W, %hW, HO⟩
  rw [show (dats m 0 c).owed t0_0.castSucc = O₀ c from rfl]
  unfold Run
  iapply (wp_fupd _ _ _ _ _)
  iapply (body_run (args m) K c i W) $$ [H1 H2 H3 H4 H5 Hs0 Hs1 HO Hg0 Hg1 Hg2 Hg3 Hg4 Hg5]
  · isplitr; · iexact HI
    isplitr; · iexact Hlev
    isplitl [HO]; · iexact HO
    isplitl [H1 H2 H3 H4 H5 Hs0 Hs1]
    · iapply (start_intro (F := F) c)
      isplitl [H1]; · iexact H1
      isplitl [H2]; · iexact H2
      isplitl [H3]; · iexact H3
      isplitl [H4]; · iexact H4
      isplitl [H5]; · iexact H5
      isplitl [Hs0] <;> iassumption
    isplitl [Hg0 Hg1 Hg2 Hg3 Hg4]
    · unfold ins xPts wqPts kPts vPts woPts
      isplitl [Hg0]; · iexact Hg0
      isplitl [Hg1]; · iexact Hg1
      isplitl [Hg2]; · iexact Hg2
      isplitl [Hg3]; · iexact Hg3
      iexact Hg4
    iexists g5; iexact Hg5
  iintro ⟨Hf, Hi⟩
  imod (finish_elim m K c) $$ [Hf] with Hf
  · isplitr; · iexact HI
    iexact Hf
  imodintro
  icases Hf with ⟨⟨%W', HO⟩, Hy, Hos, Hs0, Hs1, Hout⟩
  unfold bodyPost
  rw [show (dats m 0 c).Φ t0_0.succ = Φ₁ (F := F) c from rfl]
  unfold Φ₁ ins xPts wqPts kPts vPts woPts
  icases Hi with ⟨Hg0, Hg1, Hg2, Hg3, Hg4⟩
  isplitl [Hy Hos Hs0 Hs1 Hprng]
  · isplitl [Hy]; · iexact Hy
    isplitl [Hos]; · iexact Hos
    isplitl [Hs0]; · iexact Hs0
    isplitl [Hs1] <;> iassumption
  isplitl [HO]
  · unfold Dat.owesAt Pipeline.owesWithin
    rw [show (dats m 0 c).owed t0_0.succ = 0 from rfl]
    iexists W'
    isplitr; · ipureintro; exact fun _ _ => Or.inl trivial
    iexact HO
  isplitl [Hg0]; · iexists (args m c).x; isplitr; · (ipureintro; dsimp only [dats])
                   iexact Hg0
  isplitl [Hg1]; · iexists (args m c).wq; isplitr; · (ipureintro; dsimp only [dats])
                   iexact Hg1
  isplitl [Hg2]; · iexists (args m c).k; isplitr; · (ipureintro; dsimp only [dats])
                   iexact Hg2
  isplitl [Hg3]; · iexists (args m c).v; isplitr; · (ipureintro; dsimp only [dats])
                   iexact Hg3
  isplitl [Hg4]; · iexists (args m c).wo; isplitr; · (ipureintro; dsimp only [dats])
                   iexact Hg4
  iexists (outG (args m) c); isplitr; · (ipureintro; dsimp only [dats])
  iexact Hout

omit [FloatOps F] in
theorem owns_0 (c : Dev nD) (X : cc0_stg0_0.ty.Contents (Elt F)) :
    (owns (c : Thread nD τ) (stage0_0 (cfg0.slots t0_0 (0 : Fin 6))) fullShare X : sProp 𝕄) = stg c cc0_stg0_0 X := owns_whole_eq c cc0_stg0_0 X
omit [FloatOps F] in
theorem owns_1 (c : Dev nD) (X : cc0_stg1_0.ty.Contents (Elt F)) :
    (owns (c : Thread nD τ) (stage0_1 (cfg0.slots t0_0 (1 : Fin 6))) fullShare X : sProp 𝕄) = stg c cc0_stg1_0 X := owns_whole_eq c cc0_stg1_0 X
omit [FloatOps F] in
theorem owns_2 (c : Dev nD) (X : cc0_stg2_0.ty.Contents (Elt F)) :
    (owns (c : Thread nD τ) (stage0_2 (cfg0.slots t0_0 (2 : Fin 6))) fullShare X : sProp 𝕄) = stg c cc0_stg2_0 X := owns_whole_eq c cc0_stg2_0 X
omit [FloatOps F] in
theorem owns_3 (c : Dev nD) (X : cc0_stg3_0.ty.Contents (Elt F)) :
    (owns (c : Thread nD τ) (stage0_3 (cfg0.slots t0_0 (3 : Fin 6))) fullShare X : sProp 𝕄) = stg c cc0_stg3_0 X := owns_whole_eq c cc0_stg3_0 X
omit [FloatOps F] in
theorem owns_4 (c : Dev nD) (X : cc0_stg4_0.ty.Contents (Elt F)) :
    (owns (c : Thread nD τ) (stage0_4 (cfg0.slots t0_0 (4 : Fin 6))) fullShare X : sProp 𝕄) = stg c cc0_stg4_0 X := owns_whole_eq c cc0_stg4_0 X
omit [FloatOps F] in
theorem owns_5 (c : Dev nD) (X : cc0_stg5_0.ty.Contents (Elt F)) :
    (owns (c : Thread nD τ) (stage0_5 (cfg0.slots t0_0 (5 : Fin 6))) fullShare X : sProp 𝕄) = stg c cc0_stg5_0 X := owns_whole_eq c cc0_stg5_0 X

theorem prog_eq : defs₀ (F := F) Proc.tc (0 : Fin 1) (t0_0, cfg0.slots t0_0) = (cc0_body (grid0.coords t0_0) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1) (Memref.isWhole_whole _)
      cc0_scratch2 cc0_scratch3) := rfl

set_option maxRecDepth 100000 in
theorem body_obligation (c : Dev nD) : BodyObligation (dats (F := F) m 0 c) (defs₀ (F := F)) 𝒱₀ () Set.univ := fun t => by
  rw [fin_N0 t]
  rw [bigSep_W0, bigSep_W0]
  simp only [owns_0, owns_1, owns_2, owns_3, owns_4, owns_5]
  have h := sound_body m c (grid0.coords t0_0)
  rw [← prog_eq] at h
  unfold bodyPre bodyPost Run at h
  exact h

end Cert.Attn

end
-- ==== Proof.Launch.lean ====
/-
The launch: every cell's record made, the tokens and credits dealt to the devices that use them, and the run of the program.
-/
module

public import proofs.«01_k».proof.Proof.Region
public import Idealize.ShloMosaic.Lib.Pipeline.RegionTalk

@[expose] public section

noncomputable section

namespace Cert.Attn

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (pointsTo_blocks)
open Idealize.ShloMosaic.Pipeline (Dat Cfg Window BodyObligation cellOf)

set_option maxRecDepth 4000

variable {F : FTy → Type} [FloatOps F]

local notation "𝕄" => MT nD τ sig Unit (Elt F) ℕ UU ℕ

variable (m : (ℓ : Loc nD τ sig) → Buf (Elt F) ℓ) (ρ : Dev nD → PrngReg)

/-! ## The region's record -/

theorem cut_owed : Pipeline.LevelCutOwed (pcfgs (F := F)) adm (dats m) () L lv (0 : Fin 1) (fun _ => 0) where
  hι c w s := by rw [L_tc]; exact Finset.mem_singleton_self _
  hιb c w s := by
    have h : ∀ (w : Fin 6) (s : Fin (win0 w).nbuf), ((win0 w).sem s).val < 6 := by decide
    have h' := h w s
    dsimp only [lv]
    rw [if_neg (fun h => by cases h), if_pos]
    show _ - 6 < 16
    omega
  hD c t g i h := by
    have e : ∀ t, (dats m 0 c).owed t = O₀ c ∨ (dats m 0 c).owed t = 0 := fun t =>
      match t with
      | ⟨0, _⟩ => .inl rfl
      | ⟨_ + 1, _⟩ => .inr rfl
    rcases e t with e | e
    · rw [show (dats m (0 : Fin 1) c).owed t = O₀ c from e] at h
      rcases O₀_pos h with ⟨k, rfl⟩ | ⟨b, rfl⟩
      · exact ⟨by rw [L_tc]; exact Finset.mem_singleton_self _, by rw [lv_rcv]; omega⟩
      · exact ⟨by rw [L_tc]; exact Finset.mem_singleton_self _, by rw [lv_bar]; exact Nat.one_pos⟩
    · rw [show (dats m (0 : Fin 1) c).owed t = 0 from e] at h
      exact absurd h (Nat.lt_irrefl 0)

theorem opened (c : Dev nD) : iprop(Tk m c ∗ Pipeline.ownSems0 osem c ∗ levAts L lv) ⊢ |={Set.univ}=> (Xk m c : sProp 𝕄) := by
  unfold Tk Xk
  iintro ⟨⟨⟨%K, #HI⟩, H1, H2, H3, H4, Ho⟩, Hs, #Hl⟩
  imod (cells_opened m K c) $$ [Ho Hs] with H5
  · isplitr; · iexact HI
    rw [bigSep_sep']
    isplitl [Ho]; · iexact Ho
    iapply (Entails.of_eq (show Pipeline.ownSems0 osem c = (bigSep Finset.univ (fun j : Fin 32 => semVal (((c : Thread nD τ), osem j) : GSem nD τ sig) 0) : sProp 𝕄) from rfl))
    iexact Hs
  imodintro
  isplitr; · iexists K; iexact HI
  isplitr; · iexact Hl
  isplitl [H1]; · iexact H1
  isplitl [H2]; · iexact H2
  isplitl [H3]; · iexact H3
  isplitl [H4] <;> iassumption

omit [FloatOps F] in
theorem held_none (c : Dev nD) (W : Valuation τ sig (Elt F)) : (StableHlo.held (c.tc : Thread nD τ) ∅ W : sProp 𝕄) = BI.emp := by
  unfold StableHlo.held; exact BI.bigSep_empty

theorem entered (c : Dev nD) : iprop(Pipeline.scopedRest (Pipeline.pin (pcfgs (F := F)) adm 0).spec c ∗ (∃ r, prngReg c r)
    ∗ StableHlo.held (c.tc : Thread nD τ) ∅ (V1 m c) ∗ Xk m c) ⊢ (dats m 0 c).Φ 0 := by
  rw [show (dats m 0 c).Φ 0 = Φ₀ m c from rfl,
    show (Pipeline.scopedRest (Pipeline.pin (pcfgs (F := F)) adm 0).spec c : sProp 𝕄) = iprop(scr0 (F := F) c ∗ scr1 (F := F) c) from scopedRest0_eq c]
  unfold Φ₀
  iintro ⟨⟨H0, H1⟩, Hp, -, HX⟩
  isplitl [HX]; · iexact HX
  isplitl [H0]; · iexact H0
  isplitl [H1] <;> iassumption

theorem left_ (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Wend m c) ∗ Pipeline.ownSems0 osem c ∗ Yk c) := by
  rw [show (dats m 0 c).Φ (Fin.last _) = Φ₁ (F := F) c from rfl, held_none,
    show (Pipeline.scopedRest (Pipeline.pin (pcfgs (F := F)) adm 0).spec c : sProp 𝕄) = iprop(scr0 (F := F) c ∗ scr1 (F := F) c) from scopedRest0_eq c]
  unfold Φ₁
  iintro ⟨HY, Hos, H0, H1, Hp⟩
  isplitl [H0 H1]; · isplitl [H0] <;> iassumption
  isplitl [Hp]; · iexact Hp
  isplitr; · iempintro
  isplitl [Hos] <;> iassumption

/-- The launch facts of the one region. -/
def kitP : Pipeline.PLaunchFacts (nD := nD) (τ := τ) (pcfgs (F := F)) (0 : Fin 1) where
  cellOf_inj a := by rw [Subsingleton.elim a adm]; exact cellOf_inj
  win := winFacts0
  pre := Pipeline.PreFacts.none _
  block_pos := block_pos0
  arr_whole := arr_whole0
  stage_whole := stage_whole0

/-- The buffers outside the region's windows. -/
abbrev restRefs : Finset (DevRef τ sig) := Pipeline.ucRefs τ sig \ Pipeline.arrRefs (τ := τ) spec0

theorem flush_in (t : Fin grid0.N) : ∀ w : Fin 6, w ≠ 5 → (win0 w).flush t = false := by rw [fin_N0 t]; decide

theorem arr_in (c : Dev nD) (w : Fin 6) (h : w ≠ 5) : (dats m 0 c).arrAt w 1 = V1 m c (Proc.devRef .tc (Pipeline.arrRef spec0 w)) := by
  unfold Dat.arrAt
  dsimp only
  rw [dif_pos (show 0 < cfg0.N from by decide), if_neg (Bool.eq_false_iff.mp (flush_in _ w h))]
  rfl

theorem arr_end (c : Dev nD) (w : Fin 6) : (dats m 0 c).arrAt w 1 = Wend m c (Proc.devRef .tc (Pipeline.arrRef spec0 w)) := by
  by_cases h : w = 5
  · subst h
    rw [arrAt_out]
    exact (Wend_out m c).symm
  · rw [arr_in m c w h]
    exact (Wend_of m c (Pipeline.arrRef spec0 w) (by revert w; decide)).symm

theorem rest_end (c : Dev nD) : ∀ b ∈ restRefs \ ∅, Wend m c b = V1 m c b := fun b hb => by
  refine Function.update_of_ne ?_ ..
  rintro rfl
  rw [Finset.sdiff_empty] at hb
  exact (Finset.mem_sdiff.mp hb).2 (Finset.mem_map.mpr ⟨main_v17, Finset.mem_image.mpr ⟨5, Finset.mem_univ _, rfl⟩, rfl⟩)

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ restRefs (Finset.empty_subset _) kitP rfl (fun c => (body_obligation m c).loose)
    (fun _ => 0) O₀ (fun c => (zero_add _).symm) (fun c => rfl) (fun _ => rfl) (fun c w => by unfold Dat.share; split <;> rfl)
    (V1 m) (Wend m) (rest_end m)
    (Tk m) Yk (Xk m) Yk (opened m) (entered m) (left_ m)
    (fun c => by iintro H; imodintro; iexact H)
    (fun _ => 0) (cut_owed m)
    (fun _ => iprop(emp))
    (fun c w => rfl) (arr_end m)

theorem arr_unscoped : ∀ w : Fin 6, (Pipeline.arrRef spec0 w).isScoped = false := by decide

theorem reg_pre (c : Dev nD) :
    iprop(StableHlo.held (c : Thread nD τ) (Pipeline.ucRefs τ sig) (V1 m c) ∗ (Tk m c ∗ (∃ r, prngReg c r) ∗ ∃ W, owes (c : Thread nD τ) (O₀ c) W))
      ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + O₀ c) Wd)
  rw [zero_add, StableHlo.held_sub_split (c : Thread nD τ) (Pipeline.arrRefs_sub_ucRefs spec0 arr_unscoped) (V1 m c)]
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c
    ⊢ iprop((StableHlo.held (c : Thread nD τ) (Pipeline.ucRefs τ sig) (Wend m c) ∗ semVal (barCell c) 0) ∗ ∃ W, owes (c : Thread nD τ) (0 : CellTallies nD τ sig Unit) W) := by
  show iprop(StableHlo.held (c.tc : Thread nD τ) (Pipeline.arrRefs (τ := τ) spec0) (Wend m c) ∗ (∃ r, prngReg c r)
    ∗ (StableHlo.held (c.tc : Thread nD τ) restRefs (Wend m c) ∗ emp) ∗ Yk c ∗ ∃ Wd, owes (c : Thread nD τ) (0 : CellTallies nD τ sig Unit) Wd) ⊢ _
  rw [StableHlo.held_sub_split (c : Thread nD τ) (Pipeline.arrRefs_sub_ucRefs spec0 arr_unscoped) (Wend m c)]
  unfold Yk
  iintro ⟨Ha, -, ⟨Hr, -⟩, Hb, HO⟩
  isplitl [Ha Hr Hb]
  · isplitl [Ha Hr]
    · isplitl [Ha] <;> iassumption
    iexact Hb
  iexact HO

/-! ## The tokens -/

def barTok (p : Dev nD × Bool) : GSem nD τ sig × ℕ × Bool := (barCell p.1, 0, p.2)
def xfTok (p : Dev nD × Fin 32) : GSem nD τ sig × ℕ × Bool := (((p.1 : Thread nD τ), osem p.2), 0, false)
theorem barTok_inj : Function.Injective barTok := fun a b h =>
  Prod.ext (congrArg (fun t : GSem nD τ sig × ℕ × Bool => t.1.1.1) h) (congrArg (fun t : GSem nD τ sig × ℕ × Bool => t.2.2) h)
theorem xfTok_inj : Function.Injective xfTok := fun a b h =>
  Prod.ext (congrArg (fun t : GSem nD τ sig × ℕ × Bool => t.1.1.1) h) (osem_inj (congrArg (fun t : GSem nD τ sig × ℕ × Bool => t.1.2) h))
def toks : Finset (GSem nD τ sig × ℕ × Bool) := Finset.univ.map ⟨barTok, barTok_inj⟩ ∪ Finset.univ.map ⟨xfTok, xfTok_inj⟩
theorem toks_disjoint : Disjoint (Finset.univ.map ⟨barTok, barTok_inj⟩) (Finset.univ.map ⟨xfTok, xfTok_inj⟩) := by
  rw [Finset.disjoint_left]
  rintro g h₁ h₂
  obtain ⟨c, -, rfl⟩ := Finset.mem_map.mp h₁
  obtain ⟨p, -, h⟩ := Finset.mem_map.mp h₂
  exact osem_ne_bar p.2 (congrArg (fun t : GSem nD τ sig × ℕ × Bool => t.1.2) h)

theorem cells_disjoint : Disjoint barCells xfCells := by
  unfold barCells xfCells
  rw [Finset.disjoint_left]
  rintro g h₁ h₂
  obtain ⟨c, -, rfl⟩ := Finset.mem_image.mp h₁
  obtain ⟨p, -, h⟩ := Finset.mem_image.mp h₂
  exact osem_ne_bar p.2 (congrArg Prod.snd h)

theorem barCell_inj : Function.Injective barCell := fun _ _ h => congrArg (fun g : GSem nD τ sig => g.1.1) h
theorem xfCell_inj : Function.Injective fun p : Dev nD × Fin 32 => (((p.1 : Thread nD τ), osem p.2) : GSem nD τ sig) := fun _ _ h =>
  Prod.ext (congrArg (fun g : GSem nD τ sig => g.1.1) h) (osem_inj (congrArg Prod.snd h))

omit [FloatOps F] in
theorem over_bars (Φ : GSem nD τ sig → sProp 𝕄) : bigSep barCells Φ = bigSep Finset.univ fun c : Dev nD => Φ (barCell c) :=
  BI.bigSep_image_of_injOn (barCell_inj.injOn) Φ
omit [FloatOps F] in
theorem over_xfs (Φ : GSem nD τ sig → sProp 𝕄) :
    bigSep xfCells Φ = bigSep Finset.univ fun c : Dev nD => bigSep Finset.univ fun j : Fin 32 => Φ ((c : Thread nD τ), osem j) := by
  unfold xfCells
  rw [BI.bigSep_image_of_injOn (xfCell_inj.injOn) Φ, BI.bigSep_univ_prod]

/-- Across a bit, with the bit; and across a transfer, with the transfer. -/
def nbEquiv : Dev nD × Bool ≃ Dev nD × Bool where
  toFun p := (nb p.1 p.2, p.2)
  invFun p := (nb p.1 p.2, p.2)
  left_inv p := by simp [nb_nb]
  right_inv p := by simp [nb_nb]
def ptnEquiv : Dev nD × Fin 16 ≃ Dev nD × Fin 16 where
  toFun p := (ptn p.1 p.2, p.2)
  invFun p := (ptn p.1 p.2, p.2)
  left_inv p := by simp [ptn_ptn]
  right_inv p := by simp [ptn_ptn]

omit [FloatOps F] in
theorem over_bits (Φ : Bool → sProp 𝕄) : bigSep Finset.univ Φ = iprop(Φ false ∗ Φ true) := by
  rw [show (Finset.univ : Finset Bool) = {false, true} from by decide, BI.bigSep_insert (by decide), BI.bigSep_singleton]
  rfl

omit [FloatOps F] in
/-- Every token at the device that pays its unit. -/
theorem toks_dealt :
    (bigSep toks fun x => (dutyTok ER x.1 x.2.1 x.2.2 : sProp 𝕄))
      = iprop((bigSep Finset.univ fun c : Dev nD => iprop(dutyTok ER (barCell (nb c false)) 0 false ∗ dutyTok ER (barCell (nb c true)) 0 true))
        ∗ bigSep Finset.univ fun c : Dev nD => bigSep Finset.univ fun k : Fin 16 =>
            iprop(dutyTok ER (sndCell c k) 0 false ∗ dutyTok ER (rcvCell (ptn c k) k) 0 false)) := by
  unfold toks
  rw [BI.bigSep_union toks_disjoint, BI.bigSep_map, BI.bigSep_map]
  refine congrArg₂ _ ?_ ?_
  · rw [BI.bigSep_univ_equiv nbEquiv, BI.bigSep_univ_prod]
    exact BI.bigSep_congr fun c _ => by rw [over_bits]; rfl
  · rw [BI.bigSep_univ_prod]
    simp only [bigSep_both, bigSep_sep']
    refine congrArg₂ _ rfl ?_
    exact (BI.bigSep_univ_prod (fun p : Dev nD × Fin 16 => (dutyTok ER (rcvCell p.1 p.2) 0 false : sProp 𝕄))).symm.trans
      ((BI.bigSep_univ_equiv ptnEquiv _).trans (BI.bigSep_univ_prod _))

/-! ## The launch credit -/

theorem nb_eq (d c : Dev nD) (b : Bool) : c = nb d b ↔ d = nb c b := ⟨fun h => by rw [h, nb_nb], fun h => by rw [h, nb_nb]⟩

theorem OS_bar (d c : Dev nD) (n : ℕ) : OS d n (barCell c) () = 0 := by
  rcases Nat.eq_zero_or_pos (OS d n (barCell c) ()) with h | h
  · exact h
  · obtain ⟨k, -, e⟩ := OS_pos h
    exact absurd (congrArg Prod.snd e).symm (rcvS_ne_bar k)

theorem tally_bar (d c : Dev nD) (b : Bool) :
    (tallyAt (barCell (nb d b)) () 1 : CellTallies nD τ sig Unit) (barCell c) () = if d = nb c b then 1 else 0 := by
  rw [tallyAt_apply]
  by_cases h : d = nb c b
  · subst h; rw [nb_nb, if_pos ⟨rfl, rfl⟩, if_pos rfl]
  · rw [if_neg (fun h1 => h ((nb_eq d c b).mp (barCell_inj h1.1))), if_neg h]

theorem owed_bar (d c : Dev nD) : O₀ d (barCell c) () = (if d = nb c true then 1 else 0) + (if d = nb c false then 1 else 0) := by
  unfold O₀ O₁
  rw [Pi.add_apply, Finsupp.add_apply, Pi.add_apply, Finsupp.add_apply, OS_bar, tally_bar, tally_bar, Nat.zero_add]

theorem owed_rcv (d c : Dev nD) (k : Fin 16) : O₀ d (rcvCell c k) () = if d = ptn c k then N else 0 := by
  have hb : ∀ b, (tallyAt (barCell (nb d b)) () 1 : CellTallies nD τ sig Unit) (rcvCell c k) () = 0 := fun b => by
    rw [tallyAt_ne_cell (fun h => rcvS_ne_bar k (congrArg Prod.snd h))]; rfl
  have hk : ∀ j : Fin 16, (tallyAt (rcvCell (ptn d j) j) () N : CellTallies nD τ sig Unit) (rcvCell c k) () = if j = k then (if d = ptn c k then N else 0) else 0 := fun j => by
    rw [tallyAt_apply]
    by_cases hj : j = k
    · subst hj
      rw [if_pos rfl]
      by_cases h : d = ptn c j
      · subst h; rw [ptn_ptn, if_pos ⟨rfl, rfl⟩, if_pos rfl]
      · rw [if_neg (fun h1 => h ?_), if_neg h]
        have e : c = ptn d j := congrArg (fun g : GSem nD τ sig => g.1.1) h1.1
        rw [e, ptn_ptn]
    · rw [if_neg hj, if_neg]
      intro h1
      have e := osem_inj (congrArg Prod.snd h1.1)
      exact hj (Fin.ext (Nat.add_left_cancel (congrArg (fun z : Fin 32 => z.val) e)).symm)
  unfold O₀ O₁ OS
  rw [Pi.add_apply, Finsupp.add_apply, Pi.add_apply, Finsupp.add_apply, hb, hb]
  simp only [Nat.add_zero]
  rw [Finset.sum_apply, Finsupp.finset_sum_apply,
    Finset.sum_congr rfl fun j _ => hk j, Finset.sum_ite_eq', if_pos]
  rw [mem_span]; exact ⟨Nat.zero_le _, k.isLt⟩

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb c true) fun _ => 1, Finset.sum_ite_eq' Finset.univ (nb c false) fun _ => 1, if_pos (Finset.mem_univ _), if_pos (Finset.mem_univ _)]

theorem launch_rcv (c : Dev nD) (k : Fin 16) :
    tallyOn (rcvCell c k) (launchCredit (Pipeline.owing O₀) 0 (rcvCell c k)) = (tallyAt (rcvCell c k) () N : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ (ptn c k) fun _ => N,
    if_pos (Finset.mem_univ _)]

def rcvLoc (k : Fin 16) : SemLoc sig := rcvS k
theorem rcvLoc_inj : Function.Injective rcvLoc := fun a b h =>
  Fin.ext (Nat.add_left_cancel (congrArg (fun z : Fin 32 => z.val) (osem_inj h)))

omit [FloatOps F] in
theorem creds (c : Dev nD) :
    (Pipeline.launchCred O₀ c : sProp 𝕄) ⊢ iprop(cred (tallyAt (barCell c) () 2) ∗ bigSep Finset.univ fun k : Fin 16 => (cred (tallyAt (rcvCell c k) () N) : sProp 𝕄)) := by
  unfold Pipeline.launchCred
  rw [bigSep_univ_at _ (SemLoc.reg barS), launch_bar]
  refine sep_mono_right ?_
  refine (BI.bigSep_subset (t := Finset.univ.map ⟨rcvLoc, rcvLoc_inj⟩) fun s hs => ?_).trans ?_
  · obtain ⟨k, -, rfl⟩ := Finset.mem_map.mp hs
    exact Finset.mem_erase.mpr ⟨rcvS_ne_bar k, Finset.mem_univ _⟩
  · rw [BI.bigSep_map]
    exact BI.bigSep_mono fun k _ => Entails.of_eq (congrArg (fun x : CellTallies nD τ sig Unit => (cred x : sProp 𝕄)) (launch_rcv c k))

/-! ## The launch -/

/-- The launch element: the windows' part, and the records' part. -/
def u₀ : UU :=
  (initOf (Pipeline.cells (Pipeline.pin (pcfgs (F := F)) adm) cellOf_inj) (Pipeline.launchToks (Pipeline.pin (pcfgs (F := F)) adm) cellOf_inj),
    launchOf barCells xfCells toks)

/-- All of a resource on one device. -/
def onDev (c₀ : Dev nD) (X : sProp 𝕄) (c : Dev nD) : sProp 𝕄 := if c = c₀ then X else iprop(emp)
omit [FloatOps F] in
theorem bigSep_onDev (c₀ : Dev nD) (X : sProp 𝕄) : bigSep Finset.univ (onDev c₀ X) = X := by
  rw [bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

def G : Dev nD → sProp 𝕄 := onDev 0 (BI.own (ER (launchOf barCells xfCells toks)))

/-- What every device may consult. -/
def records (κ : GSem nD τ sig → ℕ) : sProp 𝕄 := iprop(recs (args m) κ ∗ bigSep barCells fun g => reached ER g 0)
instance records_persistent (κ : GSem nD τ sig → ℕ) : BI.Persistent (records m κ) := by unfold records; infer_instance

omit [FloatOps F] in
theorem reached_at (c : Dev nD) : (bigSep barCells fun g => (reached ER g 0 : sProp 𝕄)) ⊢ reached ER (barCell c) 0 :=
  BI.bigSep_elim (Finset.mem_image_of_mem _ (Finset.mem_univ c))

/-- What stays with device `c` of the records' resources. -/
def share (c : Dev nD) : sProp 𝕄 :=
  iprop(atPos ER (barCell c) 0 ∅ 0
    ∗ (bigSep Finset.univ fun j : Fin 32 => (openTok ER ((c : Thread nD τ), osem j) : sProp 𝕄))
    ∗ (dutyTok ER (barCell (nb c false)) 0 false ∗ dutyTok ER (barCell (nb c true)) 0 true)
    ∗ bigSep Finset.univ fun k : Fin 16 => iprop(dutyTok ER (sndCell c k) 0 false ∗ dutyTok ER (rcvCell (ptn c k) k) 0 false))

/-- The rest of what it starts from. -/
def bundle (c : Dev nD) : sProp 𝕄 :=
  iprop(StableHlo.held (c : Thread nD τ) (Pipeline.ucRefs τ sig) (V0 m c)
    ∗ (cred (tallyAt (barCell c) () 2) ∗ bigSep Finset.univ fun k : Fin 16 => (cred (tallyAt (rcvCell c k) () N) : sProp 𝕄))
    ∗ owes (c : Thread nD τ) (O₀ c) ∅ ∗ ∃ r, prngReg c r)

/-- What rides along to the region. -/
def E0 (c : Dev nD) : sProp 𝕄 := iprop(Tk m c ∗ (∃ r, prngReg c r) ∗ ∃ W, owes (c : Thread nD τ) (O₀ c) W)
abbrev T₀ (c : Dev nD) : sProp 𝕄 := iprop(StableHlo.held (c : Thread nD τ) (Pipeline.ucRefs τ sig) (V0 m c) ∗ E0 m c)
abbrev Tₙ (c : Dev nD) : sProp 𝕄 := iprop(StableHlo.held (c : Thread nD τ) (Pipeline.ucRefs τ sig) (Wend m c) ∗ semVal (barCell c) 0)

theorem T₀_intro (κ : GSem nD τ sig → ℕ) (c : Dev nD) : iprop(records m κ ∗ (share (F := F) c ∗ bundle m c)) ⊢ T₀ m c := by
  unfold records share bundle T₀ E0 Tk
  iintro ⟨⟨#HI, #HR⟩, ⟨Hat, Hop, ⟨Ht1, Ht2⟩, Ht3⟩, Hh, ⟨Hc1, Hc2⟩, HO, Hp⟩
  isplitl [Hh]; · iexact Hh
  isplitl [Hat Hop Ht1 Ht2 Ht3 Hc1 Hc2]
  · isplitr; · iexists κ; iexact HI
    isplitl [Ht1 Ht2]
    · isplitl [Ht1]; · iexact Ht1
      isplitr; · iapply (reached_at (F := F) (nb c false)); iexact HR
      isplitl [Ht2]; · iexact Ht2
      iapply (reached_at (F := F) (nb c true)); iexact HR
    isplitl [Hc1 Hat]; · isplitl [Hc1] <;> iassumption
    isplitl [Ht3]; · iexact Ht3
    isplitl [Hc2] <;> iassumption
  isplitl [Hp]; · iexact Hp
  iexists ∅; iexact HO

theorem unscoped_eq : ∀ sm : SemLoc sig, sm.isScoped .tc = false → sm = .reg barS := by decide

omit [FloatOps F] in
theorem unscopedSems0_eq (c : Dev nD) : (unscopedSems0 c : sProp 𝕄) = semVal (barCell c) 0 := by
  unfold unscopedSems0
  rw [show (Finset.univ.filter fun sm : SemLoc sig => ¬sm.isScoped .tc = true) = {SemLoc.reg barS} from by decide, BI.bigSep_singleton]

theorem core_start (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G (F := F) c)
    ⊢ (iprop(bundle m c ∗ (semVal (barCell c) 0 ∗ G (F := F) c)) : sProp 𝕄) := by
  rw [show unscopedBufs c (fun b => m ((c : Thread nD τ).loc b)) = StableHlo.held (c : Thread nD τ) (Pipeline.ucRefs τ sig) (V0 m c) from
    Pipeline.unscopedBufs_held (Ix := Unit) (Name := ℕ) (U := UU) (Lvl := ℕ) c (V0 m c), unscopedSems0_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

omit [FloatOps F] in
theorem sep_out {Φ Ψ : Dev nD → sProp 𝕄} : (bigSep Finset.univ fun c => iprop(Φ c ∗ Ψ c)) ⊢ iprop(bigSep Finset.univ Φ ∗ bigSep Finset.univ Ψ) :=
  Entails.of_eq (bigSep_sep' Finset.univ Φ Ψ)
omit [FloatOps F] in
theorem sep_in {Φ Ψ : Dev nD → sProp 𝕄} : iprop(bigSep Finset.univ Φ ∗ bigSep Finset.univ Ψ) ⊢ (bigSep Finset.univ fun c => iprop(Φ c ∗ Ψ c)) :=
  Entails.of_eq (bigSep_sep' Finset.univ Φ Ψ).symm

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c))
      ⊢ (bigSep Finset.univ fun c : Dev nD => iprop(bundle m c ∗ (semVal (barCell c) 0 ∗ G (F := F) c)) : sProp 𝕄) from BI.bigSep_mono fun c _ => core_start m ρ c) $$ H
  ihave H2 := sep_out $$ H'; icases H2 with ⟨HB, H3⟩
  ihave H4 := sep_out $$ H3; icases H4 with ⟨Hv, HG⟩
  ihave Hu := (show bigSep Finset.univ (G (F := F)) ⊢ BI.own (ER (launchOf barCells xfCells toks)) from
    Entails.of_eq (bigSep_onDev (F := F) 0 (BI.own (ER (launchOf barCells xfCells toks))))) $$ HG
  imod (Rounds.fund_launch ER (Rd (args m)) cells_disjoint (fun g _ h => h) toks) $$ [Hv Hu] with ⟨%κ, -, #Hinv, #Hr, Hat, Hopen, Htok⟩
  · isplitl [Hv]
    · iapply (Entails.of_eq (over_bars (F := F) (fun g => semVal g 0)).symm); iexact Hv
    · iexact Hu
  imodintro
  iapply (bigSep_with_persistent (R := records m κ) (Φ := fun c => iprop(share (F := F) c ∗ bundle m c)) fun c _ => T₀_intro m κ c)
  isplitr
  · unfold records recs
    isplitr; · iexact Hinv
    iexact Hr
  iapply sep_in
  isplitr [HB]
  · unfold share
    iapply sep_in
    isplitl [Hat]; · iapply (Entails.of_eq (over_bars (F := F) (fun g => atPos ER g 0 ∅ 0))); iexact Hat
    iapply sep_in
    isplitl [Hopen]; · iapply (Entails.of_eq (over_xfs (F := F) (fun g => openTok ER g))); iexact Hopen
    iapply sep_in
    iapply (Entails.of_eq (toks_dealt (F := F))) $$ Htok
  · iexact HB

theorem Wend_arg (c : Dev nD) (r : Ref sig .tc) (h : r ≠ main_v17) (h' : r ∉ hostOps0_W) : Wend m c r = m ((c : Thread nD τ).loc r) :=
  (Wend_of m c r h).trans ((V1_of m c r h').trans rfl)

theorem uc_mem (r : Ref sig .tc) (h : r.isScoped = false) : Proc.devRef .tc r ∈ Pipeline.ucRefs τ sig :=
  Finset.mem_filter.mpr ⟨StableHlo.devRef_mem_tcRefs r, Bool.eq_false_iff.mp h⟩

set_option backward.isDefEq.respectTransparency.types false in
/-- The run: every device's arguments end as they started, its result array holds the result block, every counter is zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))
        ∧ r.2.mem ((c : Thread nD τ).loc main_v17) = outG (args m) c) ∧ r.2.sem = fun _ => 0) :=
  Pipeline.θ_run_regions_kit_dev_sems (pcfgs (F := F)) adm (dats m) () cellOf_inj EP defs₀ 𝒱₀ L lv m ρ main
    (segs m 𝒱₀ L lv (fun _ => E0 m) () (dats m) (reg m))
    (fun c Q => by
      rewrite [main_chain c, Pipeline.Seg.run_eq_chain,
        show (segs m 𝒱₀ L lv (fun _ => E0 m) () (dats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne (G (F := F)) (u₀ (F := F))
    (by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Tₙ m)
    (hch := fun c => ⟨.rfl, reg_pre m c, reg_post m c⟩)
    (hinit := init m ρ)
    (QY := fun c s => (∀ r : Ref sig .tc, r.isScoped = false → s.mem ((c : Thread nD τ).loc r) = Wend m c r) ∧ s.sem (barCell c) = 0)
    (hfin := fun c s' => by
      dsimp only [Tₙ]
      unfold StableHlo.held
      iintro ⟨⟨Hh, Hb0⟩, HSI⟩
      icombine HSI Hb0 gives %hb
      ihave Hr := (pointsTo_read_all (Pipeline.ucRefs τ sig) (fun b => ((c : Thread nD τ).1, b)) (Wend m c) s') $$ [Hh HSI]
      · isplitl [Hh] <;> iassumption
      icases Hr with ⟨%h, HSI⟩
      imodintro
      isplitr
      · ipureintro
        exact ⟨fun r hr => h (Proc.devRef .tc r) (uc_mem r hr), by simpa using hb⟩
      iexact HSI)
    (hQ := fun s h hs => ⟨fun c => by
        have hm := (h c).1
        exact ⟨⟨(hm main_arg0 (by decide)).trans (Wend_arg m c _ (by decide) (by decide)),
          (hm main_arg1 (by decide)).trans (Wend_arg m c _ (by decide) (by decide)),
          (hm main_arg2 (by decide)).trans (Wend_arg m c _ (by decide) (by decide)),
          (hm main_arg3 (by decide)).trans (Wend_arg m c _ (by decide) (by decide)),
          (hm main_arg4 (by decide)).trans (Wend_arg m c _ (by decide) (by decide))⟩,
          (hm main_v17 (by decide)).trans (Wend_out m c)⟩,
      sem_eq_zero hs fun c sm hsm => by
        obtain rfl := unscoped_eq sm hsm
        exact (h c).2⟩)

end Cert.Attn

end
-- ==== Proof.Frames.lean ====
/-
The frames: each program runs to its end, its arguments and the semaphores' counters are as they were.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

noncomputable section

namespace Cert.Attn

open Idealize.ShloMosaic Idealize.SL.Sem

/-- The same run over any float values, of which only the arguments and the counters are kept. -/
theorem run_frame {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).1, h.2⟩) (run_main (F := F) m ρ)

/-- The idealized kernel's frame: its run, of which only the arguments and the counters are kept. -/
theorem frame_kernelIdeal : Cert.quiescent_KernelIdeal := fun m ρ _ => run_frame (F := Ideal) m ρ

set_option maxHeartbeats 4000000 in
set_option maxRecDepth 100000 in
/-- The two programs have the same bodies. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So their tables of bodies agree. -/
theorem defs_eq : Cert.KernelIdeal.defs (F := Bits) = Cert.Kernel.defs (F := Bits) :=
  congrArg (Pipeline.defs (Cert.KernelIdeal.pcfgs (F := Bits))) bodies_eq.symm

set_option maxHeartbeats 4000000 in
set_option maxRecDepth 100000 in
/-- The kernel's frame: the same run, over the words of floats. -/
theorem frame_kernel : Cert.quiescent_Kernel := fun m ρ _ => by
  have h := run_frame (F := Bits) m ρ
  rw [defs_eq] at h
  exact h

/-- The reference's frame. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.Attn

end
-- ==== Proof.HostSlice.lean ====
/-
What the host puts in the kernel's key and value windows: the device's four heads of the sixteen.
-/
module

public import proofs.«01_k».proof.Proof.Region
public import Idealize.ShloMosaic.Lib.Pointwise
public import Idealize.ShloMosaic.Lib.StableHlo.RunRead
public import Idealize.ShloMosaic.Lib.DynamicIndex

@[expose] public section

noncomputable section

namespace Cert.Attn

open Cert.KernelIdeal Cert.KernelIdeal.Gen
open Idealize.ShloMosaic Idealize.ShloMosaic.TcCoe
open Idealize.SL Idealize.SL.Sem

variable (m : (ℓ : Loc nD τ sig) → Buf (Elt Ideal) ℓ)

theorem heads_slice (c : Dev nD) : S2x128x1024.Slices ![0, 0, 256 * c.val] S2x128x256 :=
  ⟨rfl, fun a => by
    have hc : c.val < 4 := c.isLt
    match a with
    | ⟨0, _⟩ => show 0 + 2 ≤ 2; omega
    | ⟨1, _⟩ => show 0 + 128 ≤ 128; omega
    | ⟨2, _⟩ => show 256 * c.val + 256 ≤ 1024; omega⟩

/-- The first column of a device's heads, as the host computes it from the device's number. -/
theorem start_eq (c : Dev nD) : BitVec.toInt
      (select
        (cmpi CmpIPredicate.slt
          (muli (id (Host.remui (Host.divui (constantI S_ 32 c.word) (constantI S_ 32 1#32)) (constantI S_ 32 4#32)))
            (constantI S_ 32 256#32))
          (constantI S_ 32 0#32))
        (addi
          (muli (id (Host.remui (Host.divui (constantI S_ 32 c.word) (constantI S_ 32 1#32)) (constantI S_ 32 4#32)))
            (constantI S_ 32 256#32))
          (constantI S_ 32 1024#32))
        (muli (id (Host.remui (Host.divui (constantI S_ 32 c.word) (constantI S_ 32 1#32)) (constantI S_ 32 4#32)))
          (constantI S_ 32 256#32))
        (Shape.Idx.first h_S_)) = ((256 * c.val : ℕ) : ℤ) := by
  revert c
  decide

theorem keys_eq (c : Dev nD) (f : FVec Ideal S2x128x16x64 .bf16) (hf : m ((c : Thread nD τ).loc main_arg2) = f) :
    (V1 m c main_v10 : FVec Ideal S2x128x256 .bf16) = extractStridedSlice S2x128x256 ![0, 0, 256 * c.val]
      (shapeCast S2x128x1024 f shapeCasts_S2x128x16x64_S2x128x1024) (heads_slice c) := by
  unfold V1 hostOps0
  after_results_simp
  refine (Host.dynamicSlice_eq_extractStridedSlice _ _ _ ![0, 0, 256 * c.val] _ (heads_slice c) ?_).trans ?_
  · generalize hW : (StableHlo.nullary (Val := Elt Ideal) (τ := τ) main_c_5 (constantI S_ 32 0#32) _).result _ = W
    have w0 : (W (Proc.tc.devRef main_c_4) : IVec S_ 32) = constantI S_ 32 0#32 := by subst hW; after_results_simp
    have w1 : (W (Proc.tc.devRef main_c_5) : IVec S_ 32) = constantI S_ 32 0#32 := by subst hW; after_results_simp
    have w2 : BitVec.toInt ((W (Proc.tc.devRef main_v9) : IVec S_ 32) (Shape.Idx.first h_S_)) = ((256 * c.val : ℕ) : ℤ) := by
      subst hW
      after_results_simp
      exact start_eq c
    clear hW
    intro a
    match a with
    | ⟨0, _⟩ => exact congrArg BitVec.toInt (congrFun w0 (Shape.Idx.first h_S_))
    | ⟨1, _⟩ => exact congrArg BitVec.toInt (congrFun w1 (Shape.Idx.first h_S_))
    | ⟨2, _⟩ => exact w2
  · have h : (V0 m c (Proc.tc.devRef main_arg2) : FVec Ideal S2x128x16x64 .bf16) = f := hf
    generalize V0 m c (Proc.tc.devRef main_arg2) = y at h
    clear hf
    subst h
    funext i
    unfold extractStridedSlice
    with_unfolding_all rfl

theorem values_eq (c : Dev nD) (f : FVec Ideal S2x128x16x64 .bf16) (hf : m ((c : Thread nD τ).loc main_arg3) = f) :
    (V1 m c main_v16 : FVec Ideal S2x128x256 .bf16) = extractStridedSlice S2x128x256 ![0, 0, 256 * c.val]
      (shapeCast S2x128x1024 f shapeCasts_S2x128x16x64_S2x128x1024) (heads_slice c) := by
  unfold V1 hostOps0
  after_results_simp
  refine (Host.dynamicSlice_eq_extractStridedSlice _ _ _ ![0, 0, 256 * c.val] _ (heads_slice c) ?_).trans ?_
  · generalize hW : (StableHlo.nullary (Val := Elt Ideal) (τ := τ) main_c_10 (constantI S_ 32 0#32) _).result _ = W
    have w0 : (W (Proc.tc.devRef main_c_9) : IVec S_ 32) = constantI S_ 32 0#32 := by subst hW; after_results_simp
    have w1 : (W (Proc.tc.devRef main_c_10) : IVec S_ 32) = constantI S_ 32 0#32 := by subst hW; after_results_simp
    have w2 : BitVec.toInt ((W (Proc.tc.devRef main_v15) : IVec S_ 32) (Shape.Idx.first h_S_)) = ((256 * c.val : ℕ) : ℤ) := by
      subst hW
      after_results_simp
      exact start_eq c
    clear hW
    intro a
    match a with
    | ⟨0, _⟩ => exact congrArg BitVec.toInt (congrFun w0 (Shape.Idx.first h_S_))
    | ⟨1, _⟩ => exact congrArg BitVec.toInt (congrFun w1 (Shape.Idx.first h_S_))
    | ⟨2, _⟩ => exact w2
  · have h : (V0 m c (Proc.tc.devRef main_arg3) : FVec Ideal S2x128x16x64 .bf16) = f := hf
    generalize V0 m c (Proc.tc.devRef main_arg3) = y at h
    clear hf
    subst h
    funext i
    unfold extractStridedSlice
    with_unfolding_all rfl

/-- Read at row `j` and column `64 * h + e`, the slice is the device's head `h`, that is head `4 * c + h` of sixteen. -/
theorem slice_at (f : FVec Ideal S2x128x16x64 .bf16) (c : Dev nD) (b : Fin 2) (j : Fin 128) (h : Fin 4) (e : Fin 64) :
    extractStridedSlice S2x128x256 ![0, 0, 256 * c.val] (shapeCast S2x128x1024 f shapeCasts_S2x128x16x64_S2x128x1024) (heads_slice c)
      (ix3 b j ⟨64 * h.val + e.val, by omega⟩) = f (ix4 b j ⟨4 * c.val + h.val, by have : c.val < 4 := c.isLt; omega⟩ e) := by
  have hc : c.val < 4 := c.isLt
  have h1 : (256 * c.val + (64 * h.val + e.val)) / 64 = 4 * c.val + h.val := by omega
  have h2 : (256 * c.val + (64 * h.val + e.val)) % 64 = e.val := by omega
  pointwise [h1, h2]

end Cert.Attn
end
-- ==== Proof.KernelValue.lean ====
/-
What one device's program computes over the extended reals, read element by element.
-/
module

public import proofs.«01_k».proof.Proof.Data
public import proofs.«01_k».proof.Proof.Protocol
public import Idealize.ShloMosaic.Lib.Pointwise

@[expose] public section

noncomputable section

namespace Cert.Attn

open Cert.KernelIdeal Cert.KernelIdeal.Gen
open Idealize.ShloMosaic

/-- The unnormalized weight of one head's query row and key row. -/
def wgt (q k : Fin 64 → EReal) : EReal := Ideal.exp (∑ e, q e * k e)
/-- One element of one head's output: the weighted sum of a value column, times the inverse of the weights' sum. -/
def headAt (q : Fin 64 → EReal) (k : Fin 128 → Fin 64 → EReal) (v : Fin 128 → EReal) : EReal :=
  (∑ j, wgt q (k j) * v j) * Ideal.div 1 (∑ j, wgt q (k j))

/-- The scaled query of device inputs `I`: batch `b`, row `i`, column `d` of the device's 256. -/
def qAt (I : Inputs Ideal) (b : Fin 2) (i : Fin 128) (d : Fin 256) : EReal :=
  (∑ r : Fin 512, I.x (ix3 b i r) * I.wq (ix2 r d)) * Ideal.ofBits .f32 0x3E000000#32
/-- Column `d` of head `h` of a device's four. -/
def col (h : Fin 4) (d : Fin 64) : Fin 256 := ⟨64 * h.val + d.val, by omega⟩
/-- The normalized output of head `h`. -/
def ctxAt (I : Inputs Ideal) (b : Fin 2) (i : Fin 128) (h : Fin 4) (d : Fin 64) : EReal :=
  headAt (fun e => qAt I b i (col h e)) (fun j e => I.k (ix3 b j (col h e))) (fun j => I.v (ix3 b j (col h d)))
/-- Its columns side by side. -/
def ctxCol (I : Inputs Ideal) (b : Fin 2) (i : Fin 128) (t : Fin 256) : EReal :=
  ctxAt I b i ⟨t.val / 64, by omega⟩ ⟨t.val % 64, by omega⟩
/-- The device's partial product at column `u` of 512. -/
def partAt (I : Inputs Ideal) (b : Fin 2) (i : Fin 128) (u : Fin 512) : EReal :=
  ∑ t : Fin 256, ctxCol I b i t * I.wo (ix2 t u)

variable (I : Inputs Ideal)

theorem cut_head (f : Vec Ideal S2x128x256 .bf16) (b : Fin 2) (h : Fin 4) (inb : ∀ a, (![b.val, 0, 64 * h.val] : Fin 3 → ℕ) a + S1x128x64.size a ≤ S2x128x256.size a)
    (j : Fin 128) (e : Fin 64) :
    cut f (Rect.unit (s := S2x128x256) ![b.val, 0, 64 * h.val] S1x128x64.size inb) (ix3 0 j e) = f (ix3 b j (col h e)) := by
  refine congrArg f (funext fun a => ?_)
  match a with
  | ⟨0, _⟩ => exact Fin.ext (show b.val + 1 * 0 = b.val by omega)
  | ⟨1, _⟩ => exact Fin.ext (show 0 + 1 * j.val = j.val by omega)
  | ⟨2, _⟩ => exact Fin.ext (show 64 * h.val + 1 * e.val = 64 * h.val + e.val by omega)
theorem H00_at (f : Vec Ideal S2x128x256 .bf16) (j : Fin 128) (e : Fin 64) : Inputs.H00 f (ix3 0 j e) = f (ix3 0 j (col 0 e)) := cut_head f 0 0 _ j e
theorem H01_at (f : Vec Ideal S2x128x256 .bf16) (j : Fin 128) (e : Fin 64) : Inputs.H01 f (ix3 0 j e) = f (ix3 0 j (col 1 e)) := cut_head f 0 1 _ j e
theorem H02_at (f : Vec Ideal S2x128x256 .bf16) (j : Fin 128) (e : Fin 64) : Inputs.H02 f (ix3 0 j e) = f (ix3 0 j (col 2 e)) := cut_head f 0 2 _ j e
theorem H03_at (f : Vec Ideal S2x128x256 .bf16) (j : Fin 128) (e : Fin 64) : Inputs.H03 f (ix3 0 j e) = f (ix3 0 j (col 3 e)) := cut_head f 0 3 _ j e
theorem H10_at (f : Vec Ideal S2x128x256 .bf16) (j : Fin 128) (e : Fin 64) : Inputs.H10 f (ix3 0 j e) = f (ix3 1 j (col 0 e)) := cut_head f 1 0 _ j e
theorem H11_at (f : Vec Ideal S2x128x256 .bf16) (j : Fin 128) (e : Fin 64) : Inputs.H11 f (ix3 0 j e) = f (ix3 1 j (col 1 e)) := cut_head f 1 1 _ j e
theorem H12_at (f : Vec Ideal S2x128x256 .bf16) (j : Fin 128) (e : Fin 64) : Inputs.H12 f (ix3 0 j e) = f (ix3 1 j (col 2 e)) := cut_head f 1 2 _ j e
theorem H13_at (f : Vec Ideal S2x128x256 .bf16) (j : Fin 128) (e : Fin 64) : Inputs.H13 f (ix3 0 j e) = f (ix3 1 j (col 3 e)) := cut_head f 1 3 _ j e
theorem X0_at (i : Fin 128) (r : Fin 512) : I.X0 (ix3 0 i r) = I.x (ix3 0 i r) := by
  refine congrArg I.x (funext fun a => ?_)
  match a with
  | ⟨0, _⟩ => exact Fin.ext (show 0 + 1 * 0 = 0 by omega)
  | ⟨1, _⟩ => exact Fin.ext (show 0 + 1 * i.val = i.val by omega)
  | ⟨2, _⟩ => exact Fin.ext (show 0 + 1 * r.val = r.val by omega)
theorem X1_at (i : Fin 128) (r : Fin 512) : I.X1 (ix3 0 i r) = I.x (ix3 1 i r) := by
  refine congrArg I.x (funext fun a => ?_)
  match a with
  | ⟨0, _⟩ => exact Fin.ext (show 1 + 1 * 0 = 1 by omega)
  | ⟨1, _⟩ => exact Fin.ext (show 0 + 1 * i.val = i.val by omega)
  | ⟨2, _⟩ => exact Fin.ext (show 0 + 1 * r.val = r.val by omega)
theorem WQ_at (r : Fin 512) (d : Fin 256) : I.WQ (ix2 r d) = I.wq (ix2 r d) := by
  refine congrArg I.wq (funext fun a => ?_)
  match a with
  | ⟨0, _⟩ => exact Fin.ext (show 0 + 1 * r.val = r.val by omega)
  | ⟨1, _⟩ => exact Fin.ext (show 0 + 1 * d.val = d.val by omega)
theorem WO_at (t : Fin 256) (u : Fin 512) : I.WO (ix2 t u) = I.wo (ix2 t u) := by
  refine congrArg I.wo (funext fun a => ?_)
  match a with
  | ⟨0, _⟩ => exact Fin.ext (show 0 + 1 * t.val = t.val by omega)
  | ⟨1, _⟩ => exact Fin.ext (show 0 + 1 * u.val = u.val by omega)

/-! ## The queries and the heads -/

theorem q0_at (i : Fin 128) (d : Fin 256) : k0_pay3 I.WQ I.X0 (ix2 i d) = qAt I 0 i d := by
  unfold qAt
  pointwise [k0_pay3, k0_pay1, X0_at, WQ_at]
theorem q1_at (i : Fin 128) (d : Fin 256) : k0_pay15 (k0_pay1 I.WQ) I.X1 (ix2 i d) = qAt I 1 i d := by
  unfold qAt
  pointwise [k0_pay15, k0_pay1, X1_at, WQ_at]
theorem col0_eq (d : Fin 64) (h : d.val < 256) : (⟨d.val, h⟩ : Fin 256) = col 0 d := Fin.ext (by show d.val = 64 * 0 + d.val; omega)
theorem col1_eq (d : Fin 64) (h : 64 + d.val < 256) : (⟨64 + d.val, h⟩ : Fin 256) = col 1 d := Fin.ext (by show 64 + d.val = 64 * 1 + d.val; omega)
theorem col2_eq (d : Fin 64) (h : 128 + d.val < 256) : (⟨128 + d.val, h⟩ : Fin 256) = col 2 d := Fin.ext (by show 128 + d.val = 64 * 2 + d.val; omega)
theorem col3_eq (d : Fin 64) (h : 192 + d.val < 256) : (⟨192 + d.val, h⟩ : Fin 256) = col 3 d := Fin.ext (by show 192 + d.val = 64 * 3 + d.val; omega)

theorem h00_at (i : Fin 128) (d : Fin 64) : I.h00 (ix2 i d) = ctxAt I 0 i 0 d := by
  have kk := H00_at I.k
  have vv := H00_at I.v
  revert kk vv
  unfold Inputs.h00 ctxAt headAt wgt
  generalize Inputs.H00 I.k = K
  generalize Inputs.H00 I.v = V
  intro kk vv
  pointwise [k0_pay7, k0_pay4, k0_pay5, k0_pay6, q0_at, kk, vv, col0_eq]
theorem h01_at (i : Fin 128) (d : Fin 64) : I.h01 (ix2 i d) = ctxAt I 0 i 1 d := by
  have kk := H01_at I.k
  have vv := H01_at I.v
  revert kk vv
  unfold Inputs.h01 ctxAt headAt wgt
  generalize Inputs.H01 I.k = K
  generalize Inputs.H01 I.v = V
  intro kk vv
  pointwise [k0_pay8, q0_at, kk, vv, col1_eq]
theorem h02_at (i : Fin 128) (d : Fin 64) : I.h02 (ix2 i d) = ctxAt I 0 i 2 d := by
  have kk := H02_at I.k
  have vv := H02_at I.v
  revert kk vv
  unfold Inputs.h02 ctxAt headAt wgt
  generalize Inputs.H02 I.k = K
  generalize Inputs.H02 I.v = V
  intro kk vv
  pointwise [k0_pay9, q0_at, kk, vv, col2_eq]
theorem h10_at (i : Fin 128) (d : Fin 64) : I.h10 (ix2 i d) = ctxAt I 1 i 0 d := by
  have kk := H10_at I.k
  have vv := H10_at I.v
  revert kk vv
  unfold Inputs.h10 ctxAt headAt wgt
  generalize Inputs.H10 I.k = K
  generalize Inputs.H10 I.v = V
  intro kk vv
  pointwise [k0_pay16, q1_at, kk, vv, col0_eq]
theorem h11_at (i : Fin 128) (d : Fin 64) : I.h11 (ix2 i d) * I.d11 (ix2 i d) = ctxAt I 1 i 1 d := by
  have kk := H11_at I.k
  have vv := H11_at I.v
  revert kk vv
  unfold Inputs.h11 Inputs.d11 ctxAt headAt wgt
  generalize Inputs.H11 I.k = K
  generalize Inputs.H11 I.v = V
  intro kk vv
  pointwise [k0_pay17, k0_pay18, k0_pay19, q1_at, kk, vv, col1_eq]
/-- Four columns of heads side by side, read at column `t`. -/
theorem side_by_side (f : Fin 4 → Fin 64 → EReal) (g : Fin 256 → EReal) (h : ∀ a d, g (col a d) = f a d) (t : Fin 256) :
    g t = f ⟨t.val / 64, by omega⟩ ⟨t.val % 64, by omega⟩ := by
  rw [← h]
  exact congrArg g (Fin.ext (by show t.val = 64 * (t.val / 64) + t.val % 64; omega))
theorem ctx0_at (i : Fin 128) (t : Fin 256) : I.ctx0 (ix2 i t) = ctxCol I 0 i t := by
  refine side_by_side (ctxAt I 0 i) (fun t => I.ctx0 (ix2 i t)) (fun a d => ?_) t
  have e0 := h00_at I i
  have e1 := h01_at I i
  have e2 := h02_at I i
  have kk := H03_at I.k
  have vv := H03_at I.v
  revert e0 e1 e2 kk vv
  unfold Inputs.ctx0
  generalize Inputs.H03 I.k = K
  generalize Inputs.H03 I.v = V
  generalize I.h01 = h01
  generalize I.h00 = h00
  generalize I.h02 = h02
  intro e0 e1 e2 kk vv
  have n0 : 128 + d.val - 64 - 64 = d.val := by omega
  have n1 : 192 + d.val - 64 - 64 - 64 = d.val := by omega
  fin_cases a
  · pointwise [k0_pay10, col]
    exact e0 d
  · pointwise [k0_pay10, col]
    exact e1 d
  · pointwise [k0_pay10, col]
    rw [dif_neg (by omega), dif_neg (by omega), dif_pos (by omega)]
    simp only [n0]
    exact e2 d
  · pointwise [k0_pay10, col]
    rw [dif_neg (by omega), dif_neg (by omega), dif_neg (by omega)]
    simp only [n1, q0_at, kk, vv, col3_eq]
    rfl
theorem ctx1_at (i : Fin 128) (t : Fin 256) : I.ctx1 (ix2 i t) = ctxCol I 1 i t := by
  refine side_by_side (ctxAt I 1 i) (fun t => I.ctx1 (ix2 i t)) (fun a d => ?_) t
  have e0 := h10_at I i
  have e1 := h11_at I i
  have kk := H12_at I.k
  have vv := H12_at I.v
  have kk' := H13_at I.k
  have vv' := H13_at I.v
  revert e0 e1 kk vv kk' vv'
  unfold Inputs.ctx1
  generalize Inputs.H12 I.k = K
  generalize Inputs.H12 I.v = V
  generalize Inputs.H13 I.k = K'
  generalize Inputs.H13 I.v = V'
  generalize I.h10 = h10
  generalize I.h11 = h11
  generalize I.d11 = d11
  intro e0 e1 kk vv kk' vv'
  have n0 : 128 + d.val - 64 - 64 = d.val := by omega
  have n1 : 192 + d.val - 64 - 64 - 64 = d.val := by omega
  fin_cases a
  · pointwise [k0_pay20, col]
    exact e0 d
  · pointwise [k0_pay20, col]
    exact e1 d
  · pointwise [k0_pay20, col]
    rw [dif_neg (by omega), dif_neg (by omega), dif_pos (by omega)]
    simp only [n0, q1_at, kk, vv, col2_eq]
    rfl
  · pointwise [k0_pay20, col]
    rw [dif_neg (by omega), dif_neg (by omega), dif_neg (by omega)]
    simp only [n1, q1_at, kk', vv', col3_eq]
    rfl

/-! ## The partial products and their sum -/

/-- Column `e` of the column block `n` of four. -/
def ocol (n : Fin 4) (e : Fin 128) : Fin 512 := ⟨128 * n.val + e.val, by omega⟩
theorem ocol0_eq (d : Fin 128) (h : d.val < 512) : (⟨d.val, h⟩ : Fin 512) = ocol 0 d := Fin.ext (by show d.val = 128 * 0 + d.val; omega)
theorem ocol1_eq (d : Fin 128) (h : 128 + d.val < 512) : (⟨128 + d.val, h⟩ : Fin 512) = ocol 1 d := Fin.ext (by show 128 + d.val = 128 * 1 + d.val; omega)
theorem ocol2_eq (d : Fin 128) (h : 256 + d.val < 512) : (⟨256 + d.val, h⟩ : Fin 512) = ocol 2 d := Fin.ext (by show 256 + d.val = 128 * 2 + d.val; omega)
theorem ocol3_eq (d : Fin 128) (h : 384 + d.val < 512) : (⟨384 + d.val, h⟩ : Fin 512) = ocol 3 d := Fin.ext (by show 384 + d.val = 128 * 3 + d.val; omega)
theorem part_at (b : Fin 2) (n : Fin 4) (i e : Fin 128) :
    I.part ⟨4 * b.val + n.val, by omega⟩ (ix4 0 0 i e) = partAt I b i (ocol n e) := by
  unfold partAt
  fin_cases b <;> fin_cases n
  · show k0_pay11 (k0_pay2 I.WO) I.q0 I.h00 I.h01 I.h02 (Inputs.H03 I.k) (Inputs.H03 I.v) (ix4 0 0 i e) = _
    have cc := ctx0_at I i
    have ww := WO_at I
    revert cc ww
    unfold k0_pay11
    generalize I.ctx0 = C
    generalize I.WO = W
    intro cc ww
    pointwise [k0_pay2, cc, ww, ocol0_eq]
    exact Finset.sum_congr rfl fun x _ => congrArg (· * _) (ctx0_at I i x)
  · show k0_pay12 (k0_pay2 I.WO) I.ctx0 (ix4 0 0 i e) = _
    have cc := ctx0_at I i
    have ww := WO_at I
    revert cc ww
    unfold k0_pay12
    generalize I.ctx0 = C
    generalize I.WO = W
    intro cc ww
    pointwise [k0_pay2, cc, ww, ocol1_eq]
  · show k0_pay13 (k0_pay2 I.WO) I.ctx0 (ix4 0 0 i e) = _
    have cc := ctx0_at I i
    have ww := WO_at I
    revert cc ww
    unfold k0_pay13
    generalize I.ctx0 = C
    generalize I.WO = W
    intro cc ww
    pointwise [k0_pay2, cc, ww, ocol2_eq]
  · show k0_pay14 (k0_pay2 I.WO) I.ctx0 (ix4 0 0 i e) = _
    have cc := ctx0_at I i
    have ww := WO_at I
    revert cc ww
    unfold k0_pay14
    generalize I.ctx0 = C
    generalize I.WO = W
    intro cc ww
    pointwise [k0_pay2, cc, ww, ocol3_eq]
  · show k0_pay22 (k0_pay21 (k0_pay2 I.WO) I.q1 I.h10 I.h11 I.d11 (Inputs.H12 I.k) (Inputs.H12 I.v) (Inputs.H13 I.k) (Inputs.H13 I.v)) (ix4 0 0 i e) = _
    have cc := ctx1_at I i
    have ww := WO_at I
    revert cc ww
    unfold k0_pay22 k0_pay21
    generalize I.ctx1 = C
    generalize I.WO = W
    intro cc ww
    pointwise [k0_pay2, cc, ww, ocol0_eq]
    exact Finset.sum_congr rfl fun x _ => congrArg (· * _) (ctx1_at I i x)
  · show k0_pay23 (k0_pay2 I.WO) I.ctx1 (ix4 0 0 i e) = _
    have cc := ctx1_at I i
    have ww := WO_at I
    revert cc ww
    unfold k0_pay23
    generalize I.ctx1 = C
    generalize I.WO = W
    intro cc ww
    pointwise [k0_pay2, cc, ww, ocol1_eq]
  · show k0_pay24 (k0_pay2 I.WO) I.ctx1 (ix4 0 0 i e) = _
    have cc := ctx1_at I i
    have ww := WO_at I
    revert cc ww
    unfold k0_pay24
    generalize I.ctx1 = C
    generalize I.WO = W
    intro cc ww
    pointwise [k0_pay2, cc, ww, ocol2_eq]
  · show k0_pay25 (k0_pay2 I.WO) I.ctx1 (ix4 0 0 i e) = _
    have cc := ctx1_at I i
    have ww := WO_at I
    revert cc ww
    unfold k0_pay25
    generalize I.ctx1 = C
    generalize I.WO = W
    intro cc ww
    pointwise [k0_pay2, cc, ww, ocol3_eq]

/-! ## The exchange: every device ends with the sum of the four -/

theorem pay28_at (a b : Vec Ideal S1x1x128x128 .bf16) (i e : Fin 128) :
    k0_pay28 a b (ix4 0 0 i e) = a (ix4 0 0 i e) + b (ix4 0 0 i e) := by
  pointwise [k0_pay28]
theorem pay36_at (a b : Vec Ideal S1x1x128x128 .bf16) (i e : Fin 128) :
    k0_pay36 a b (ix3 0 i e) = a (ix4 0 0 i e) + b (ix4 0 0 i e) := by
  pointwise [k0_pay36]
/-- A device, its first partner, and the two that the second partner adds are all four devices. -/
theorem sum_partners (f : Dev nD → EReal) (c : Dev nD) (j : Fin 8) :
    (f c + f (ptn c ⟨j.val, by omega⟩))
      + (f (ptn c ⟨8 + j.val, by omega⟩) + f (ptn (ptn c ⟨8 + j.val, by omega⟩) ⟨j.val, by omega⟩)) = ∑ d, f d := by
  have key : ∀ (c : Dev nD) (j : Fin 8), (ptn c ⟨j.val, by omega⟩ = nb c false ∧ ptn c ⟨8 + j.val, by omega⟩ = nb c true
      ∧ ptn (ptn c ⟨8 + j.val, by omega⟩) ⟨j.val, by omega⟩ = nb (nb c true) false)
      ∨ (ptn c ⟨j.val, by omega⟩ = nb c true ∧ ptn c ⟨8 + j.val, by omega⟩ = nb c false
      ∧ ptn (ptn c ⟨8 + j.val, by omega⟩) ⟨j.val, by omega⟩ = nb (nb c false) true) := by decide
  have hs : ∑ d, f d = f 0 + f 1 + f 2 + f 3 := Fin.sum_univ_four f
  rcases key c j with ⟨e1, e2, e3⟩ | ⟨e1, e2, e3⟩ <;> rw [e3, e1, e2, hs]
  · have h : ∀ c : Dev nD, (f c + f (nb c false)) + (f (nb c true) + f (nb (nb c true) false)) = f 0 + f 1 + f 2 + f 3 := by
      intro c
      fin_cases c
      · show (f 0 + f 1) + (f 3 + f 2) = _
        ac_rfl
      · show (f 1 + f 0) + (f 2 + f 3) = _
        ac_rfl
      · show (f 2 + f 3) + (f 1 + f 0) = _
        ac_rfl
      · show (f 3 + f 2) + (f 0 + f 1) = _
        ac_rfl
    exact h c
  · have h : ∀ c : Dev nD, (f c + f (nb c true)) + (f (nb c false) + f (nb (nb c false) true)) = f 0 + f 1 + f 2 + f 3 := by
      intro c
      fin_cases c
      · show (f 0 + f 3) + (f 1 + f 2) = _
        ac_rfl
      · show (f 1 + f 2) + (f 0 + f 3) = _
        ac_rfl
      · show (f 2 + f 1) + (f 3 + f 0) = _
        ac_rfl
      · show (f 3 + f 0) + (f 2 + f 1) = _
        ac_rfl
    exact h c
/-- An element of the result on any device: the devices' partial products summed. -/
theorem out_at (J : Dev nD → Inputs Ideal) (c : Dev nD) (b : Fin 2) (i : Fin 128) (u : Fin 512) :
    outG J c (ix3 b i u) = ∑ d, partAt (J d) b i u := by
  have hi : inChunk (ix3 b i u) = ix3 0 i ⟨u.val % 128, by omega⟩ := by
    funext a
    match a with
    | ⟨0, _⟩ => rfl
    | ⟨1, _⟩ => rfl
    | ⟨2, _⟩ => rfl
  have hu : ocol ⟨u.val / 128, by omega⟩ ⟨u.val % 128, by omega⟩ = u := Fin.ext (by show 128 * (u.val / 128) + u.val % 128 = u.val; omega)
  show res J c (chunkOf (ix3 b i u)) (inChunk (ix3 b i u)) = _
  rw [hi, ← sum_partners (fun d => partAt (J d) b i u) c (chunkOf (ix3 b i u))]
  unfold res
  rw [pay36_at, val_hi, val_hi, pay28_at, pay28_at]
  have hp : ∀ d, (J d).part (chunkOf (ix3 b i u)) (ix4 0 0 i ⟨u.val % 128, by omega⟩) = partAt (J d) b i u := fun d =>
    (part_at (J d) b ⟨u.val / 128, by omega⟩ i ⟨u.val % 128, by omega⟩).trans (by rw [hu])
  simp only [val_lo, hp]

end Cert.Attn
end
-- ==== Proof.ReferenceValue.lean ====
/-
What the reference computes over the extended reals, read element by element.
-/
module

public import proofs.«01_k».proof.Proof.Gen.ReferenceIdeal
public import proofs.«01_k».proof.Proof.Gen.ReferenceIdeal.Run
public import Idealize.ShloMosaic.Lib.Pointwise

@[expose] public section

noncomputable section

namespace Cert.AttnRef

open Cert.ReferenceIdeal Cert.ReferenceIdeal.Gen
open Idealize.ShloMosaic

/-- Two positions below 128 lie within 128 of each other: the mask keeps every pair. -/
theorem mask_true (i j : Fin 128) :
    IntOp.cmpi CmpIPredicate.sle (IntOp.absi (IntOp.subi (BitVec.ofNat 32 i.val) (BitVec.ofNat 32 j.val))) 128#32 = 1#1 := by
  have h : (IntOp.absi (IntOp.subi (BitVec.ofNat 32 i.val) (BitVec.ofNat 32 j.val))).sle 128#32 = true := by
    unfold IntOp.absi IntOp.subi
    have hi := i.isLt
    have hj := j.isLt
    have nat : ∀ n : ℕ, n < 128 → (BitVec.ofNat 32 n).toInt = n := fun n hn => by
      rw [BitVec.toInt_eq_toNat_of_lt] <;> simp <;> omega
    rw [BitVec.sle_eq_decide, decide_eq_true_iff]
    by_cases h : j.val ≤ i.val
    · have e : BitVec.ofNat 32 i.val - BitVec.ofNat 32 j.val = BitVec.ofNat 32 (i.val - j.val) := by
        apply BitVec.eq_of_toNat_eq; simp [BitVec.toNat_sub]; omega
      rw [e, BitVec.msb_eq_decide, decide_eq_false (by simp; omega), if_neg (by decide), nat _ (by omega), show (128#32).toInt = 128 from rfl]
      omega
    · have e : -(BitVec.ofNat 32 i.val - BitVec.ofNat 32 j.val) = BitVec.ofNat 32 (j.val - i.val) := by
        apply BitVec.eq_of_toNat_eq; simp [BitVec.toNat_sub]; omega
      have e' : (BitVec.ofNat 32 i.val - BitVec.ofNat 32 j.val).msb = true := by
        rw [BitVec.msb_eq_decide, decide_eq_true_iff]; simp [BitVec.toNat_sub]; omega
      rw [e', if_pos rfl, e, nat _ (by omega), show (128#32).toInt = 128 from rfl]
      omega
  show BitVec.ofBool _ = _
  rw [h]; rfl
theorem fold_true : Finset.fold IntOp.ori (0#1) (fun _ : Fin 128 => 1#1) Finset.univ = 1#1 := by
  exact (Finset.fold_const (op := IntOp.ori) (b := 0#1) (s := Finset.univ) (1#1) (by decide)).trans rfl

variable (x : FVec Ideal S2x128x512 .bf16) (wq : FVec Ideal S512x1024 .bf16) (k v : FVec Ideal S2x128x16x64 .bf16) (wo : FVec Ideal S1024x512 .bf16)

/-- Column `e` of head `h` of sixteen. -/
def hcol (h : Fin 16) (e : Fin 64) : Fin 1024 := ⟨h.val * 64 + e.val, by omega⟩
/-- The scaled score of batch `b`, head `h`, query row `i` and key row `j`. -/
def score (b : Fin 2) (h : Fin 16) (i j : Fin 128) : EReal :=
  (∑ e : Fin 64, (∑ r : Fin 512, x (ix3 b i r) * wq (ix2 r (hcol h e))) * k (ix4 b j h e)) * Ideal.ofBits .f32 0x3E000000#32
/-- The largest score of a row. -/
def top (s : Fin 128 → EReal) : EReal := Finset.fold max (Ideal.ofBits .f32 0xFF800000#32) s Finset.univ
/-- The normalized weight of row `s` at `j`. -/
def softmax (s : Fin 128 → EReal) (j : Fin 128) : EReal := Ideal.div (Ideal.exp (s j - top s)) (∑ j', Ideal.exp (s j' - top s))
/-- One element of the reference's result. -/
def refAt (b : Fin 2) (i : Fin 128) (u : Fin 512) : EReal :=
  ∑ t : Fin 1024, (∑ j : Fin 128, v (ix4 b j ⟨t.val / 64, by omega⟩ ⟨t.val % 64, by omega⟩)
    * softmax (score x wq k b ⟨t.val / 64, by omega⟩ i) j) * wo (ix2 t u)

set_option maxHeartbeats 4000000 in
theorem res_at (m : (ℓ : Loc nD τ sig) → Buf (Elt Ideal) ℓ) (c : Dev nD) (b : Fin 2) (i : Fin 128) (u : Fin 512) :
    (Value.res_main_v40 m c : FVec Ideal S2x128x512 .bf16) (ix3 b i u)
      = refAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b i u := by
  unfold Value.res_main_v40 refAt softmax score top hcol
  pointwise [mask_true, fold_true]

end Cert.AttnRef
end
-- ==== Proof.Softmax.lean ====
/-
The algebra over the extended reals: with finite scores, normalizing after the weighted sum of the values is
normalizing the weights first, whatever the values are.
-/
module

public import proofs.«01_k».proof.Proof.KernelValue
public import proofs.«01_k».proof.Proof.ReferenceValue

@[expose] public section

noncomputable section

namespace Cert.Attn

open Idealize.ShloMosaic Cert.AttnRef

/-- An extended real that is a real. -/
def IsReal (x : EReal) : Prop := ∃ r : ℝ, x = (r : EReal)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩
theorem IsReal.mul {a b : EReal} (ha : IsReal a) (hb : IsReal b) : IsReal (a * b) := by
  obtain ⟨x, rfl⟩ := ha
  obtain ⟨y, rfl⟩ := hb
  exact ⟨x * y, (EReal.coe_mul x y).symm⟩
/-- A real factor that is not negative goes into a sum, whatever the terms are. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem eighth : Ideal.ofBits .f32 0x3E000000#32 = (((1 : ℝ) / 8 : ℝ) : EReal) := by
  simp [Ideal.ofBits, Ideal.ieee, -EReal.coe_mul]; norm_num
theorem minus_inf : Ideal.ofBits .f32 0xFF800000#32 = ⊥ := by
  simp [Ideal.ofBits, Ideal.ieee]
theorem plus_inf : Ideal.ofBits .f32 0x7F800000#32 = ⊤ := by
  simp [Ideal.ofBits, Ideal.ieee]

/-- The largest of a row of reals is a real. -/
theorem top_real (s : Fin 128 → ℝ) : IsReal (top fun j => (s j : EReal)) := by
  have h1 : top (fun j => (s j : EReal)) < ⊤ := by
    unfold top
    rw [Finset.fold_max_lt, minus_inf]
    exact ⟨bot_lt_top, fun j _ => EReal.coe_lt_top _⟩
  have h2 : ⊥ < top (fun j => (s j : EReal)) := by
    unfold top
    rw [Finset.lt_fold_max]
    exact Or.inr ⟨0, Finset.mem_univ _, EReal.bot_lt_coe _⟩
  exact ⟨_, (EReal.coe_toReal h1.ne h2.ne').symm⟩

/-- The weights of a row of real scores. -/
theorem softmax_real (s : Fin 128 → ℝ) (j : Fin 128) :
    softmax (fun j => (s j : EReal)) j = ((Real.exp (s j) * (1 / ∑ j', Real.exp (s j')) : ℝ) : EReal) := by
  obtain ⟨M, hM⟩ := top_real s
  unfold softmax
  rw [hM]
  simp only [← EReal.coe_sub, Ideal.exp_coe]
  rw [← coe_sum]
  have hS : 0 < ∑ j', Real.exp (s j') := Finset.sum_pos (fun j _ => Real.exp_pos _) ⟨0, Finset.mem_univ _⟩
  have hS' : 0 < ∑ j', Real.exp (s j' - M) := Finset.sum_pos (fun j _ => Real.exp_pos _) ⟨0, Finset.mem_univ _⟩
  rw [Ideal.div_coe hS'.ne', ← EReal.coe_mul]
  congr 1
  simp only [Real.exp_sub] at hS' ⊢
  rw [← Finset.sum_div]
  have hE := Real.exp_pos M
  field_simp

/-- One head's output: the kernel's form with the queries scaled is the reference's with the scores scaled. -/
theorem head_eq (q : Fin 64 → EReal) (k : Fin 128 → Fin 64 → EReal) (v : Fin 128 → EReal)
    (hq : ∀ e, IsReal (q e)) (hk : ∀ j e, IsReal (k j e)) :
    headAt (fun e => q e * Ideal.ofBits .f32 0x3E000000#32) k v
      = ∑ j, v j * softmax (fun j => (∑ e, q e * k j e) * Ideal.ofBits .f32 0x3E000000#32) j := by
  choose Q hQ using hq
  choose K hK using hk
  have hs : (fun j => (∑ e, q e * k j e) * Ideal.ofBits .f32 0x3E000000#32) = fun j => (((∑ e, Q e * K j e) * (1 / 8) : ℝ) : EReal) := by
    funext j
    simp only [hQ, hK, eighth, EReal.coe_mul, coe_sum]
  have hw : ∀ j, wgt (fun e => q e * Ideal.ofBits .f32 0x3E000000#32) (k j) = ((Real.exp ((∑ e, Q e * K j e) * (1 / 8)) : ℝ) : EReal) := by
    intro j
    unfold wgt
    rw [← Ideal.exp_coe, Finset.sum_mul, coe_sum]
    refine congrArg Ideal.exp (Finset.sum_congr rfl fun e _ => ?_)
    show q e * _ * k j e = _
    rw [hQ, hK, eighth, ← EReal.coe_mul, ← EReal.coe_mul]
    congr 1
    ring
  have hS : 0 < ∑ j, Real.exp ((∑ e, Q e * K j e) * (1 / 8)) := Finset.sum_pos (fun j _ => Real.exp_pos _) ⟨0, Finset.mem_univ _⟩
  unfold headAt
  rw [hs]
  simp only [hw, softmax_real]
  rw [← coe_sum, Ideal.div_coe hS.ne', one_mul, sum_mul_real _ _ _ (by positivity)]
  refine Finset.sum_congr rfl fun j _ => ?_
  rw [EReal.coe_mul, mul_comm (_ : EReal) (v j), mul_assoc]

end Cert.Attn
end
-- ==== Proof.Finite.lean ====
/-
What the precondition gives: every element of the activations, the query weights and the keys is a real.
-/
module

public import proofs.«01_k».proof.Pre_finite_KernelIdeal
public import proofs.«01_k».proof.Proof.Gen.Pre_finite_KernelIdeal
public import proofs.«01_k».proof.Proof.Softmax
public import Idealize.ShloMosaic.Lib.ReduceAll

@[expose] public section

noncomputable section

namespace Cert.Attn

open Idealize.ShloMosaic Cert.Pre_finite_KernelIdeal

/-- An extended real whose absolute value is below the infinity is a real. -/
theorem real_of_abs_lt (x : EReal) (h : Ideal.cmp .olt (max x (-x)) (Ideal.ofBits .f32 0x7F800000#32) = 1#1) : IsReal x := by
  rw [plus_inf] at h
  have h' : max x (-x) < ⊤ := by
    by_contra hn
    have hd : decide (max x (-x) < (⊤ : EReal)) = false := decide_eq_false hn
    have h2 : BitVec.ofBool (decide (max x (-x) < (⊤ : EReal))) = 1#1 := h
    rw [hd] at h2
    exact absurd h2 (by decide)
  have h1 : x ≠ ⊤ := fun e => by rw [e] at h'; simp at h'
  have h2 : x ≠ ⊥ := fun e => by rw [e] at h'; simp at h'
  exact ⟨x.toReal, (EReal.coe_toReal h1 h2).symm⟩

instance : Subsingleton S_.Idx := ⟨fun a b => funext fun i => i.elim0⟩

theorem real_of_pre (x : FVec Ideal S2x128x512 .bf16) (wq : FVec Ideal S512x256 .bf16) (k v : FVec Ideal S2x128x16x64 .bf16)
    (wo : FVec Ideal S256x512 .bf16) (h : fn (F := Ideal) x wq k v wo = fun _ => 1#1) :
    (∀ i, IsReal (x i)) ∧ (∀ i, IsReal (wq i)) ∧ ∀ i, IsReal (k i) := by
  have h0 := congrFun h (Shape.Idx.first Facts.h_S_)
  obtain ⟨h12, h3⟩ := IntOp.andi_eq_one.1 h0
  obtain ⟨h1, h2⟩ := IntOp.andi_eq_one.1 h12
  exact ⟨fun i => real_of_abs_lt _ (Host.reduce_andi_all _ _ _ _ _ h1 i), fun i => real_of_abs_lt _ (Host.reduce_andi_all _ _ _ _ _ h2 i),
    fun i => real_of_abs_lt _ (Host.reduce_andi_all _ _ _ _ _ h3 i)⟩

end Cert.Attn
end
-- ==== Proof.Value.lean ====
/-
The kernel's result on every device is the reference's: the four devices' partial products, added, are the reference's one
product over all sixteen heads.
-/
module

public import proofs.«01_k».proof.Defs
public import proofs.«01_k».proof.Proof.Launch
public import proofs.«01_k».proof.Proof.HostSlice
public import proofs.«01_k».proof.Proof.Finite
public import Idealize.ShloMosaic.Lib.Layout

@[expose] public section

noncomputable section

namespace Cert.Attn

open Cert.KernelIdeal Cert.KernelIdeal.Gen Cert.AttnRef
open Idealize.ShloMosaic Idealize.ShloMosaic.TcCoe
open Idealize.SL Idealize.SL.Sem

/-- A sum over 1024 columns is the sum over the four devices of the sums over their 256. -/
theorem sum_cols (g : Fin 1024 → EReal) :
    ∑ t, g t = ∑ d : Fin 4, ∑ t : Fin 256, g ⟨256 * d.val + t.val, by omega⟩ := by
  rw [← Fintype.sum_prod_type' fun (d : Fin 4) (t : Fin 256) => g ⟨256 * d.val + t.val, by omega⟩]
  refine (Fintype.sum_equiv (finProdFinEquiv (m := 4) (n := 256)) _ _ fun p => ?_).symm
  refine congrArg g (Fin.ext ?_)
  show 256 * p.1.val + p.2.val = p.2.val + 256 * p.1.val
  omega

/-- The sum of the devices' partial products is the reference's element, when the devices hold their parts of the reference's
    arrays and the scores are finite. -/
theorem parts_eq (J : Dev nD → Inputs Ideal) (x : FVec Ideal ⟨3, ![2, 128, 512]⟩ .bf16) (wq : FVec Ideal ⟨2, ![512, 1024]⟩ .bf16)
    (k v : FVec Ideal ⟨4, ![2, 128, 16, 64]⟩ .bf16) (wo : FVec Ideal ⟨2, ![1024, 512]⟩ .bf16)
    (hx : ∀ d, (J d).x = x)
    (hwq : ∀ (d : Fin 4) r (t : Fin 256), (J d).wq (ix2 r t) = wq (ix2 r ⟨256 * d.val + t.val, by omega⟩))
    (hk : ∀ (d : Fin 4) b j (h : Fin 4) (e : Fin 64), (J d).k (ix3 b j ⟨64 * h.val + e.val, by omega⟩) = k (ix4 b j ⟨4 * d.val + h.val, by omega⟩ e))
    (hv : ∀ (d : Fin 4) b j (h : Fin 4) (e : Fin 64), (J d).v (ix3 b j ⟨64 * h.val + e.val, by omega⟩) = v (ix4 b j ⟨4 * d.val + h.val, by omega⟩ e))
    (hwo : ∀ (d : Fin 4) (t : Fin 256) u, (J d).wo (ix2 t u) = wo (ix2 ⟨256 * d.val + t.val, by omega⟩ u))
    (fx : ∀ i, IsReal (x i)) (fwq : ∀ d i, IsReal ((J d).wq i)) (fk : ∀ i, IsReal (k i)) (b : Fin 2) (i : Fin 128) (u : Fin 512) :
    ∑ d, partAt (J d) b i u = refAt x wq k v wo b i u := by
  unfold refAt
  rw [sum_cols]
  refine Finset.sum_congr rfl fun d _ => ?_
  have hd : d.val < 4 := d.isLt
  unfold partAt
  refine Finset.sum_congr rfl fun t _ => ?_
  have e1 : (⟨(256 * d.val + t.val) / 64, by omega⟩ : Fin 16) = ⟨4 * d.val + t.val / 64, by omega⟩ := Fin.ext (by show (256 * d.val + t.val) / 64 = 4 * d.val + t.val / 64; omega)
  have e2 : (⟨(256 * d.val + t.val) % 64, by omega⟩ : Fin 64) = ⟨t.val % 64, by omega⟩ := Fin.ext (by show (256 * d.val + t.val) % 64 = t.val % 64; omega)
  rw [hwo]
  refine congrArg (· * _) ?_
  show _ = ∑ j : Fin 128, v (ix4 b j ⟨(256 * d.val + t.val) / 64, by omega⟩ ⟨(256 * d.val + t.val) % 64, by omega⟩)
    * softmax (score x wq k b ⟨(256 * d.val + t.val) / 64, by omega⟩ i) j
  rw [e1, e2]
  unfold ctxCol ctxAt qAt
  rw [head_eq (fun e => ∑ r : Fin 512, (J d).x (ix3 b i r) * (J d).wq (ix2 r (col ⟨t.val / 64, by omega⟩ e))) _ _
    (fun e => IsReal.sum fun r => IsReal.mul (by rw [hx]; exact fx _) (fwq d _)) (fun j e => by
      have h := hk d b j ⟨t.val / 64, by omega⟩ e
      exact ⟨_, h.trans (fk _).choose_spec⟩)]
  refine Finset.sum_congr rfl fun j _ => ?_
  refine congrArg₂ (· * ·) (hv d b j ⟨t.val / 64, by omega⟩ ⟨t.val % 64, by omega⟩) ?_
  refine congrArg (fun s => softmax s j) (funext fun j' => ?_)
  unfold score
  refine congrArg (· * _) (Finset.sum_congr rfl fun e _ => ?_)
  refine congrArg₂ (· * ·) (Finset.sum_congr rfl fun r _ => ?_) (hk d b j' ⟨t.val / 64, by omega⟩ e)
  rw [hx, hwq]
  refine congrArg (fun z => x (ix3 b i r) * wq (ix2 r z)) (Fin.ext ?_)
  show 256 * d.val + (64 * (t.val / 64) + e.val) = (4 * d.val + t.val / 64) * 64 + e.val
  omega

/-- From memories paired as the claim pairs them, every device's result is the reference's. -/
theorem value_eq (m : (ℓ : Loc nD τ sig) → Buf (Elt Ideal) ℓ)
    (hpre : Cert.Pre_KernelIdeal_finite_KernelIdeal m)
    (x : FVec Ideal ⟨3, ![2, 128, 512]⟩ .bf16) (wq : FVec Ideal ⟨2, ![512, 1024]⟩ .bf16)
    (k v : FVec Ideal ⟨4, ![2, 128, 16, 64]⟩ .bf16) (wo : FVec Ideal ⟨2, ![1024, 512]⟩ .bf16)
    (h : ∀ c : Dev nD, m ((c : Thread nD τ).loc main_arg0) = x
      ∧ m ((c : Thread nD τ).loc main_arg1) = Layout.block ⟨2, ![512, 256]⟩ ⟨2, ![512, 1024]⟩ 1 4 c wq
      ∧ m ((c : Thread nD τ).loc main_arg2) = k
      ∧ m ((c : Thread nD τ).loc main_arg3) = v
      ∧ m ((c : Thread nD τ).loc main_arg4) = Layout.block ⟨2, ![256, 512]⟩ ⟨2, ![1024, 512]⟩ 0 4 c wo)
    (c : Dev nD) (b : Fin 2) (i : Fin 128) (u : Fin 512) :
    outG (args m) c (ix3 b i u) = refAt x wq k v wo b i u := by
  have fin := fun c => real_of_pre _ _ _ _ _ (hpre c)
  have ax : ∀ d, (args m d).x = m ((d : Thread nD τ).loc main_arg0) := fun d => (V1_of m d main_arg0 (by decide)).trans rfl
  have aq : ∀ d, (args m d).wq = m ((d : Thread nD τ).loc main_arg1) := fun d => (V1_of m d main_arg1 (by decide)).trans rfl
  have ao : ∀ d, (args m d).wo = m ((d : Thread nD τ).loc main_arg4) := fun d => (V1_of m d main_arg4 (by decide)).trans rfl
  rw [out_at]
  refine parts_eq (args m) x wq k v wo (fun d => (ax d).trans (h d).1) ?_ ?_ ?_ ?_ ?_ ?_ ?_ b i u
  · intro d r t
    rw [aq, (h d).2.1, Layout.block_apply]
    refine congrArg wq (funext fun a => Fin.ext ?_)
    match a with
    | ⟨0, _⟩ => rfl
    | ⟨1, _⟩ => show d.val * 256 + t.val = 256 * d.val + t.val; omega
  · intro d b j hh e
    exact (congrFun (keys_eq m d k (h d).2.2.1) _).trans (slice_at k d b j hh e)
  · intro d b j hh e
    exact (congrFun (values_eq m d v (h d).2.2.2.1) _).trans (slice_at v d b j hh e)
  · intro d t u
    rw [ao, (h d).2.2.2.2, Layout.block_apply]
    refine congrArg wo (funext fun a => Fin.ext ?_)
    match a with
    | ⟨0, _⟩ => show d.val * 256 + t.val = 256 * d.val + t.val; omega
    | ⟨1, _⟩ => rfl
  · intro j
    rw [← (h c).1]
    exact (fin c).1 j
  · intro d j
    rw [aq]
    exact (fin d).2.1 j
  · intro j
    rw [← (h c).2.2.1]
    exact (fin c).2.2 j

end Cert.Attn
end
-- ==== Proof.Algebraic.lean ====
/-
The value claim: the kernel's run and the reference's run end with the same result on every device.
-/
module

public import proofs.«01_k».proof.Proof.Value
public import proofs.«01_k».proof.Proof.Gen.ReferenceIdeal.Run

@[expose] public section

noncomputable section

namespace Cert.Attn

open Idealize.ShloMosaic Idealize.SL.Sem

theorem algebraic : Cert.algebraic_KernelIdeal_ReferenceIdeal_pre_finite_KernelIdeal := by
  intro m g m' g' hpre h
  refine ⟨Cert.ReferenceIdeal.Value.res_main_v40 m' 0, ?_, ?_⟩
  · refine (θ_run Cert.KernelIdeal.defs _ _).mono (fun r hr c => ⟨(hr.1 c).2.trans ?_, (hr.1 c).1⟩) (run_main (F := Ideal) m g)
    have e : ∀ i : (⟨3, ![2, 128, 512]⟩ : Shape).Idx,
        (outG (args m) c : FVec Ideal ⟨3, ![2, 128, 512]⟩ .bf16) i = (Cert.ReferenceIdeal.Value.res_main_v40 m' 0 : FVec Ideal ⟨3, ![2, 128, 512]⟩ .bf16) i := by
      intro i
      rw [eq_ix3 i]
      exact (value_eq m hpre _ _ _ _ _ h c _ _ _).trans (Cert.AttnRef.res_at m' 0 _ _ _).symm
    exact funext e
  · exact (θ_run Cert.ReferenceIdeal.defs _ _).mono (fun r hr => hr 0) (Cert.ReferenceIdeal.Value.run m' g')

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the three programs, the idealization and the value claim. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Attn.frame_kernel, Cert.Attn.frame_kernelIdeal, fun m ρ _ => Cert.Attn.frame_kernelIdeal m ρ trivial,
  Cert.Attn.frame_reference, fun m ρ _ => Cert.Attn.frame_reference m ρ trivial, trivial, Cert.Attn.algebraic⟩

end Cert.Proof

end
